-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![512, 512]⟩ ⟨2, ![1024, 512]⟩ (Layout.meshBlock [2, 2, 2] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S512x512 : Shape := ⟨2, ![512, 512]⟩
abbrev S1024x512 : Shape := ⟨2, ![1024, 512]⟩
abbrev S4x128x512 : Shape := ⟨3, ![4, 128, 512]⟩
abbrev S4 : Shape := ⟨1, ![4]⟩
abbrev S1 : Shape := ⟨1, ![1]⟩
abbrev S_ : Shape := ⟨0, ![]⟩
abbrev S1x128x512 : Shape := ⟨3, ![1, 128, 512]⟩
abbrev S128x512 : Shape := ⟨2, ![128, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1024x512, .bf16⟩
  | .local _ .vmem, ⟨0, _⟩ => ⟨S1024x512, .bf16⟩
  | .local _ .vmem, ⟨1, _⟩ => ⟨S4x128x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v31 : BitVec 32 := Scalar.muli v2 c4_i32_24
  let v32 : BitVec 32 := Scalar.addi c0_i32_25 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v33 : BitVec 32 := Scalar.muli v5 c2_i32_26
  let v34 : BitVec 32 := Scalar.addi v32 v33
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v35 : BitVec 32 := Scalar.muli v9 c1_i32_27
  let v36 : BitVec 32 := Scalar.addi v34 v35
  v36.toNat
def k0_off1 (d0 : Dev nD) (c0_i32_35 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v42 : BitVec 32 := Scalar.muli v8 c512_i32
  let v43 : BitVec 32 := Scalar.addi v42 c0_i32_35
  let v47 : Index := Scalar.indexCast v43
  let c0_38 : Index := 0#32
  ![v47.toNat, 0]
def k0_off2 (d0 : Dev nD) (c0_i32_35 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v42 : BitVec 32 := Scalar.muli v8 c512_i32
  let v43 : BitVec 32 := Scalar.addi v42 c0_i32_35
  let c0_i32_45 : BitVec 32 := 0#32
  ![v43.toNat, 0]
def k0_dev2 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v49 : BitVec 32 := Scalar.muli v2 c4_i32_41
  let v50 : BitVec 32 := Scalar.addi c0_i32_42 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v51 : BitVec 32 := Scalar.muli v5 c2_i32_43
  let v52 : BitVec 32 := Scalar.addi v50 v51
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_44 : BitVec 32 := 1#32
  let v53 : BitVec 32 := Scalar.muli v9 c1_i32_44
  let v54 : BitVec 32 := Scalar.addi v52 v53
  v54.toNat
def k0_dev3 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v73 : BitVec 32 := Scalar.muli v2 c4_i32_60
  let v74 : BitVec 32 := Scalar.addi c0_i32_61 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v75 : BitVec 32 := Scalar.muli v5 c2_i32_62
  let v76 : BitVec 32 := Scalar.addi v74 v75
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_63 : BitVec 32 := 1#32
  let v77 : BitVec 32 := Scalar.muli v9 c1_i32_63
  let v78 : BitVec 32 := Scalar.addi v76 v77
  v78.toNat
def k0_dev4 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v97 : BitVec 32 := Scalar.muli v2 c4_i32_79
  let v98 : BitVec 32 := Scalar.addi c0_i32_80 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v99 : BitVec 32 := Scalar.muli v5 c2_i32_81
  let v100 : BitVec 32 := Scalar.addi v98 v99
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_82 : BitVec 32 := 1#32
  let v101 : BitVec 32 := Scalar.muli v9 c1_i32_82
  let v102 : BitVec 32 := Scalar.addi v100 v101
  v102.toNat
def k0_dev5 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v121 : BitVec 32 := Scalar.muli v2 c4_i32_98
  let v122 : BitVec 32 := Scalar.addi c0_i32_99 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v123 : BitVec 32 := Scalar.muli v5 c2_i32_100
  let v124 : BitVec 32 := Scalar.addi v122 v123
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_101 : BitVec 32 := 1#32
  let v125 : BitVec 32 := Scalar.muli v9 c1_i32_101
  let v126 : BitVec 32 := Scalar.addi v124 v125
  v126.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S1024x512 : Shape := ⟨2, ![1024, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Rolled.lean ====
/- The kernel body of `proofs.«01_k».proof.Kernel`, written once over the block number `k`: the pieces of
   memory each of its four blocks touches, the three stages a block goes through, and the theorem that
   the printed body is these stages one after another. -/
module

public import proofs.«01_k».proof.Proof.Gen.Kernel
public import proofs.«01_k».proof.Proof.Gen.Kernel.Skeleton
public import proofs.«01_k».proof.Proof.Gen.Kernel.Launch

@[expose] public section

noncomputable section

namespace Cert.ZGather

open Idealize.ShloMosaic Idealize.ShloMosaic.TcCoe Idealize.SL.Sem
open Cert.Kernel Cert.Kernel.Gen

variable {F : FTy → Type} [FloatOps F]

/-! ## The partner along the gathered axis -/

/-- The device whose last mesh coordinate is the other one. -/
def peer (c : Dev nD) : Dev nD := ⟨4 * (c.val / 4) + 2 * ((c.val / 2) % 2) + 1 - c.val % 2, by
  have h : c.val < 8 := c.isLt
  show _ < 8
  omega⟩

theorem peer_peer (c : Dev nD) : peer (peer c) = c := by
  have h : c.val < 8 := c.isLt
  apply Fin.ext
  show 4 * ((4 * (c.val / 4) + 2 * ((c.val / 2) % 2) + 1 - c.val % 2) / 4)
    + 2 * (((4 * (c.val / 4) + 2 * ((c.val / 2) % 2) + 1 - c.val % 2) / 2) % 2) + 1
    - (4 * (c.val / 4) + 2 * ((c.val / 2) % 2) + 1 - c.val % 2) % 2 = c.val
  omega

theorem peer_mod (c : Dev nD) : (peer c).val % 2 = 1 - c.val % 2 := by
  have h : c.val < 8 := c.isLt
  show (4 * (c.val / 4) + 2 * ((c.val / 2) % 2) + 1 - c.val % 2) % 2 = _
  omega

theorem peer_ne (c : Dev nD) : peer c ≠ c := fun h => by
  have := peer_mod c
  rw [h] at this
  omega

theorem peer_inj : Function.Injective peer := fun a b h => by rw [← peer_peer a, h, peer_peer]

/-- The permutation of the devices that swaps partners. -/
def swap : Dev nD ≃ Dev nD := ⟨peer, peer, peer_peer, peer_peer⟩

/-- The device the body names as the target of its signal and of its remote copies. -/
def target (c : Dev nD) : Dev nD := ⟨k0_dev1 c, k0_dev1_lt c⟩

theorem target_eq (c : Dev nD) : target c = peer c := Fin.ext (k0_dev1_eq c)

/-! ## The pieces of memory and the semaphores of block `k` -/

theorem src_inb (k : Fin 4) : ∀ a, (![128 * k.val, 0] : Fin 2 → Nat) a + S128x512.size a ≤ S512x512.size a := by
  revert k; decide

theorem slot_inb (k : Fin 4) : ∀ a, (![k.val, 0, 0] : Fin 3 → Nat) a + S1x128x512.size a ≤ S4x128x512.size a := by
  revert k; decide

theorem sem_inb (k : Fin 4) : ∀ a, (![k.val] : Fin 1 → Nat) a + S1.size a ≤ S4.size a := by
  revert k; decide

/-- The `k`-th 128 rows of the argument. -/
abbrev srcR (k : Fin 4) : Rect S512x512 := Rect.unit (s := S512x512) ![128 * k.val, 0] S128x512.size (src_inb k)
/-- The `k`-th slot of the scratch buffer. -/
abbrev slotR (k : Fin 4) : Rect S4x128x512 := Rect.unit (s := S4x128x512) ![k.val, 0, 0] S1x128x512.size (slot_inb k)
/-- The rows of the result that device `d`'s block `k` fills. -/
abbrev outR (d : Dev nD) (k : Fin 4) : Rect S1024x512 :=
  Rect.unit (s := S1024x512) (k0_off2 d (BitVec.ofNat 32 (128 * k.val))) S128x512.size (k0_off2_inb d k)

/-- The argument buffer, the staging buffer of the result, the scratch buffer. -/
abbrev argM : Memref sig .tc .hbm S512x512 .f32 := Memref.whole main_arg0
abbrev resM : Memref sig .tc .vmem S1024x512 .bf16 := Memref.whole cc0_stg0_0
abbrev scrM : Memref sig .tc .vmem S4x128x512 .f32 := Memref.whole cc0_scratch0

abbrev srcM (k : Fin 4) : Memref sig .tc .hbm S128x512 .f32 := argM.slice (srcR k) (fun _ => rfl)
abbrev slotM (k : Fin 4) : Memref sig .tc .vmem S128x512 .f32 :=
  (scrM.slice (slotR k) (fun _ => rfl)).squeeze S128x512 squeezes_S1x128x512_S128x512
abbrev outM (d : Dev nD) (k : Fin 4) : Memref sig .tc .vmem S128x512 .bf16 := resM.slice (outR d k) (fun _ => rfl)

/-- Element `k` of one of the kernel's three semaphore arrays. -/
abbrev semAt (s : DmaSems sig S4) (k : Fin 4) : DmaSem sig :=
  ((s.slice (Rect.unit (s := S4) ![k.val] S1.size (sem_inb k))).squeeze S_ squeezes_S1_S_).sem

/-- The semaphores block `k`'s three copies end on: into the slot, out of this device, into the partner. -/
abbrev loadS (k : Fin 4) : DmaSem sig := semAt cc0_scratch1 k
abbrev sendS (k : Fin 4) : DmaSem sig := semAt cc0_scratch2 k
abbrev recvS (k : Fin 4) : DmaSem sig := semAt cc0_scratch3 k
/-- The barrier semaphore. -/
abbrev barS : Sem sig := (SemArray.scalar (sig.barrier 0 rfl) : Sems sig S_).sem

/-! ## The stages of block `k` -/

/-- Start the copy of the argument's rows into the slot. -/
def fetch (k : Fin 4) : Prog (TpuEff nD τ sig (Elt F) Λ₀ .tc) PUnit :=
  Prog.lift (.enqueueDma (srcM k) (.here (slotM k)) (.dma (loadS k)) (View.wordExact_bits rfl)
    ((View.wordExact_bits rfl).reshape _ _) ⟨Or.inl rfl, trivial⟩)

/-- Tell device `t` that this device is in the kernel, and wait for the same word from the partner. -/
def meet (t : Dev nD) : Prog (TpuEff nD τ sig (Elt F) Λ₀ .tc) PUnit := do
  semSignalWord t barS 1#32
  semWaitWord barS 1#32

/-- Wait for the slot, convert it into this device's rows of the result, start their copy to device `t`. -/
def forward (c t : Dev nD) (k : Fin 4) : Prog (TpuEff nD τ sig (Elt F) Λ₀ .tc) PUnit := do
  Prog.lift (.waitDma2 (loadS k) (srcM k) (slotM k) (View.wordExact_bits rfl) ((View.wordExact_bits rfl).reshape _ _))
  let v : Vec F S1x128x512 .f32 ← Prog.lift (.load scrM (slotR k).toLoadRect (View.loadsAt_vmem h_S1x128x512))
  let _w : Vec F S128x512 .bf16 ← Prog.lift (.load resM (outR c k).toLoadRect (View.loadsAt_vmem h_S128x512))
  Prog.lift (.store resM (outR c k) (k0_pay1 v) Finset.univ
    (View.stores_vmem h_S128x512 ((hstage0_0 0).storeExact_slice rfl _ (k0_off1_packedbf16 c k)) (fun _ => rfl)) (.inl rfl))
  Prog.lift (.enqueueDma (outM c k) (.remote (Dev.tc t) (outM c k) (.dma (sendS k))) (.dma (recvS k))
    ((hstage0_0 0).wordExact_slice rfl _ (k0_off2_wordsbf16 c k)) ((hstage0_0 0).wordExact_slice rfl _ (k0_off2_wordsbf16 c k))
    ⟨⟨rfl, Or.inl rfl⟩, trivial⟩)

/-- Wait for the copy out of this device and for the partner's copy into it. -/
def settle (c : Dev nD) (k : Fin 4) : Prog (TpuEff nD τ sig (Elt F) Λ₀ .tc) PUnit := do
  Prog.lift (.waitDma2 (sendS k) (outM c k) (outM c k)
    ((hstage0_0 0).wordExact_slice rfl _ (k0_off2_wordsbf16 c k)) ((hstage0_0 0).wordExact_slice rfl _ (k0_off2_wordsbf16 c k)))
  Prog.lift (.waitDma2 (recvS k) (outM c k) (outM c k)
    ((hstage0_0 0).wordExact_slice rfl _ (k0_off2_wordsbf16 c k)) ((hstage0_0 0).wordExact_slice rfl _ (k0_off2_wordsbf16 c k)))

/-- Do `f` for each of the four blocks in order, then `p`. -/
def each {β : Type} (f : Fin 4 → Prog (TpuEff nD τ sig (Elt F) Λ₀ .tc) PUnit)
    (p : Prog (TpuEff nD τ sig (Elt F) Λ₀ .tc) β) : Prog (TpuEff nD τ sig (Elt F) Λ₀ .tc) β :=
  f 0 >>= fun _ => f 1 >>= fun _ => f 2 >>= fun _ => f 3 >>= fun _ => p

/-- The whole body on a device: fetch all blocks, meet the partner, forward all blocks, settle all blocks. -/
def stages (c : Dev nD) : Prog (TpuEff nD τ sig (Elt F) Λ₀ .tc) PUnit :=
  each fetch <| meet (target c) >>= fun _ => each (forward c (target c)) <| each (settle c) <| pure ⟨⟩

set_option maxRecDepth 65536 in
/-- The printed body is its stages. -/
theorem body_eq : (cc0_body argM (Memref.isWhole_whole _) (win0_0.stage 0) (hstage0_0 0) scrM (Memref.isWhole_whole _)
      cc0_scratch1 cc0_scratch2 cc0_scratch3 : Prog (TpuEff nD τ sig (Elt F) Λ₀ .tc) PUnit)
    = .op .deviceId fun c => stages c := rfl

end Cert.ZGather

end
-- ==== Proof.Cells.lean ====
/- The semaphore cells of the kernel and what each of them carries: every cell is used once, for one
   amount, and hands its waiter one piece of memory at known contents. Then what each device owes the
   others at launch, and the order of levels that keeps the waits from blocking each other. -/
module

public import proofs.«01_k».proof.Proof.Rolled
public import Idealize.ShloMosaic.Lib.Pipeline.Launch
public import Idealize.ShloMosaic.Lib.Pipeline.Kit
public import Idealize.ShloMosaic.Lib.Tactic

@[expose] public section

noncomputable section

namespace Cert.ZGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

abbrev UB : Type := URounds (GSem nD τ sig) Unit
abbrev UU : Type := UR sig nD τ × UB

local notation "𝕄" => MT nD τ sig Unit (Elt F) ℕ UU ℕ

/-- The pipeline's ghost state and the kernel's. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Block `k` of device `c`'s argument. -/
def blk (c : Dev nD) (k : Fin 4) : S128x512.Idx → Elt F .f32 :=
  (srcM k).view.read (Elt F) (m ((c : Thread nD τ).loc main_arg0))

/-- What device `c` sends for it: each element rounded to the narrow type. -/
def sent (c : Dev nD) (k : Fin 4) : S128x512.Idx → Elt F .bf16 := truncf .bf16 (blk m c k) bitsLt_bf16_f32

/-- Device `c` holds the memref, reading `X`; the second, reading anything. -/
abbrev has (c : Dev nD) {sp : Space} {sh : Shape} {e : EltTy} (M : Memref sig .tc sp sh e) (X : sh.Idx → Elt F e) : sProp 𝕄 :=
  owns (c : Thread nD τ) M fullShare X
abbrev some' (c : Dev nD) {sp : Space} {sh : Shape} {e : EltTy} (M : Memref sig .tc sp sh e) : sProp 𝕄 :=
  iprop(∃ X, has (F := F) c M X)

/-! ## The cells -/

/-- A cell of a device: the barrier, or — for block `k` — the load (0), the send (1), the receive (2). -/
abbrev Cell : Type := Option (Fin 3 × Fin 4)

def csem : Cell → SemLoc sig
  | none => .reg barS
  | some (0, k) => .dma (loadS k)
  | some (1, k) => .dma (sendS k)
  | some (2, k) => .dma (recvS k)

/-- The cell a semaphore is, if it is one of these. -/
def cellAt : SemLoc sig → Option Cell
  | .reg s => if s = barS then some none else none
  | .dma s => if h : 1 ≤ s.val ∧ s.val ≤ 12 then
      some (some (⟨(s.val - 1) / 4, by omega⟩, ⟨(s.val - 1) % 4, by omega⟩)) else none

theorem cellAt_csem (i : Cell) : cellAt (csem i) = some i := by revert i; decide

theorem csem_inj : Function.Injective csem := fun i j h => by
  have := congrArg cellAt h
  rw [cellAt_csem, cellAt_csem] at this
  exact Option.some.inj this

abbrev gcell (c : Dev nD) (i : Cell) : GSem nD τ sig := ((c : Thread nD τ), csem i)

theorem gcell_inj : Function.Injective fun x : Dev nD × Cell => gcell x.1 x.2 := by
  rintro ⟨c, i⟩ ⟨d, j⟩ h
  have h1 : c = d := congrArg (fun g : GSem nD τ sig => g.1.1) h
  have h2 : i = j := csem_inj (congrArg Prod.snd h)
  rw [h1, h2]

/-- What a copy into a slot and a copy of a block of the result add to the semaphore they end on. -/
abbrev loadN : ℕ := (slotM 0).view.dmaCredit
abbrev moveN : ℕ := (outM 0 0).view.dmaCredit

def amt : Cell → ℕ
  | none => 1
  | some (0, _) => loadN
  | some (1, _) => moveN
  | some (2, _) => moveN

theorem amt_pos (i : Cell) : 0 < amt i := by
  match i with
  | none => exact Nat.one_pos
  | some (0, _) => exact View.dmaCredit_pos _ (by decide)
  | some (1, _) => exact View.dmaCredit_pos _ (by decide)
  | some (2, _) => exact View.dmaCredit_pos _ (by decide)

/-- What a cell hands device `c`: the barrier, the partner's room for `c`'s blocks; a load, the slot filled
    and the argument's rows back; a send, `c`'s rows back; a receive, the partner's rows filled. -/
def pay (c : Dev nD) : Cell → sProp 𝕄
  | none => bigSep Finset.univ fun k : Fin 4 => some' (peer c) (outM c k)
  | some (0, k) => iprop(has c (slotM k) (blk m c k) ∗ has c (srcM k) (blk m c k))
  | some (1, k) => has c (outM c k) (sent m c k)
  | some (2, k) => has c (outM (peer c) k) (sent m (peer c) k)

theorem pay_bar (c : Dev nD) : pay m c none = bigSep Finset.univ fun k : Fin 4 => some' (F := F) (peer c) (outM c k) := rfl
theorem pay_load (c : Dev nD) (k : Fin 4) :
    pay m c (some (0, k)) = iprop(has c (slotM k) (blk m c k) ∗ has c (srcM k) (blk m c k)) := rfl
theorem pay_send (c : Dev nD) (k : Fin 4) : pay m c (some (1, k)) = has c (outM c k) (sent m c k) := rfl
theorem pay_recv (c : Dev nD) (k : Fin 4) : pay m c (some (2, k)) = has c (outM (peer c) k) (sent m (peer c) k) := rfl

instance pay_storable (c : Dev nD) (i : Cell) : BI.Storable (upEmb : UEmb _ 𝕄) (pay m c i) := by
  match i with
  | none => unfold pay; infer_instance
  | some (0, k) => unfold pay; infer_instance
  | some (1, k) => unfold pay; infer_instance
  | some (2, k) => unfold pay; infer_instance

def payAt (g : GSem nD τ sig) : sProp 𝕄 :=
  match cellAt g.2 with
  | some i => pay m g.1.1 i
  | none => iprop(emp)

instance payAt_storable (g : GSem nD τ sig) : BI.Storable (upEmb : UEmb _ 𝕄) (payAt m g) := by
  unfold payAt; split <;> infer_instance

/-- Each cell has one round with one payment. -/
def Rd : Rounds.Schedule (GSem nD τ sig) Unit 𝕄 where
  duties g r := if r = 0 ∧ g.1.2 = .tc ∧ (cellAt g.2).isSome then {()} else ∅
  unitless _ := False
  amount g _ _ := match cellAt g.2 with | some i => amt i | none => 1
  payload g _ _ := payAt m g
  amount_pos g _ _ _ := by
    split
    · exact amt_pos _
    · exact Nat.one_pos

instance Rd_storable (g : GSem nD τ sig) (r : ℕ) (d : Unit) :
    BI.Storable (upEmb : UEmb _ 𝕄) ((Rd (F := F) m).payload g r d) := payAt_storable m g

section Round
variable (c : Dev nD) (i : Cell)

theorem duties_cell : (Rd (F := F) m).duties (gcell c i) 0 = {()} :=
  if_pos ⟨rfl, rfl, by rw [cellAt_csem]; rfl⟩

theorem mem_duties : () ∈ (Rd (F := F) m).duties (gcell c i) 0 := by
  rw [duties_cell]; exact Finset.mem_singleton_self _

theorem duties_later (g : GSem nD τ sig) : ∀ r, 1 ≤ r → (Rd (F := F) m).duties g r = ∅ :=
  fun r hr => if_neg fun h => by omega

theorem amount_cell (r : ℕ) (d : Unit) : (Rd (F := F) m).amount (gcell c i) r d = amt i := by
  show (match cellAt (csem i) with | some i => amt i | none => 1) = amt i
  rw [cellAt_csem]

theorem expect_cell : (Rd (F := F) m).expect (gcell c i) 0 = amt i := by
  unfold Schedule.expect Schedule.amountOf
  rw [duties_cell, Finset.sum_singleton, amount_cell]

theorem payload_cell (r : ℕ) (d : Unit) : (Rd (F := F) m).payload (gcell c i) r d = pay m c i := by
  show payAt m (gcell c i) = _
  unfold payAt
  rw [cellAt_csem]

theorem rest_cell : bigSep ((Rd (F := F) m).duties (gcell c i) 0 \ ∅) (fun d => (Rd (F := F) m).payload (gcell c i) 0 d)
    = pay m c i := by
  rw [Finset.sdiff_empty, duties_cell, bigSep_singleton, payload_cell]

end Round

/-! ## What a device owes, and the levels -/

/-- What device `c` still owes its partner with `r` blocks to go: the last `r` receive cells. -/
def due (c : Dev nD) : ℕ → CellTallies nD τ sig Unit
  | 0 => 0
  | r + 1 => due c r + tallyAt (gcell (peer c) (some (2, Fin.ofNat 4 (3 - r)))) () moveN

theorem due_step (c : Dev nD) (k : Fin 4) :
    due c (4 - k.val) = due c (3 - k.val) + tallyAt (gcell (peer c) (some (2, k))) () moveN := by
  fin_cases k <;> rfl

/-- At launch it owes the barrier's word as well. -/
def dueAll (c : Dev nD) : CellTallies nD τ sig Unit := due c 4 + tallyAt (gcell (peer c) none) () 1

def L (g : GSem nD τ sig) : Finset Unit := if g.1.2 = .tc then {()} else ∅

/-- The barrier is at level 1, the receives at level 2, everything else at level 0. -/
def lev (s : SemLoc sig) : ℕ :=
  match cellAt s with
  | some none => 1
  | some (some (2, _)) => 2
  | _ => 0

def lv (g : GSem nD τ sig) (_ : Unit) : ℕ := lev g.2

theorem L_of_ne (g : GSem nD τ sig) (h : g.1.2 ≠ .tc) : L g = ∅ := if_neg h
theorem L_tc (c : Dev nD) (s : SemLoc sig) : L ((c : Thread nD τ), s) = {()} := if_pos rfl

theorem lev_recv (k : Fin 4) : lev (csem (some (2, k))) = 2 := by unfold lev; rw [cellAt_csem]; rfl
theorem lev_bar : lev (csem none) = 1 := by unfold lev; rw [cellAt_csem]
theorem lev_load (k : Fin 4) : lev (csem (some (0, k))) = 0 := by unfold lev; rw [cellAt_csem]; rfl

theorem tally_pos {g h : GSem nD τ sig} {n : ℕ} {u : Unit} (hp : 0 < tallyAt (Ix := Unit) h () n g u) : g = h := by
  rw [tallyAt_apply] at hp
  by_contra hn
  rw [if_neg fun h' => hn h'.1] at hp
  exact Nat.lt_irrefl 0 hp

theorem due_pos (c : Dev nD) (r : ℕ) {g : GSem nD τ sig} {u : Unit} (h : 0 < due c r g u) :
    ∃ k, g = gcell (peer c) (some (2, k)) := by
  induction r with
  | zero => exact absurd h (Nat.lt_irrefl 0)
  | succ r ih =>
    unfold due at h
    rw [Pi.add_apply, Finsupp.add_apply] at h
    rcases Nat.eq_zero_or_pos (due c r g u) with h0 | h0
    · rw [h0, Nat.zero_add] at h
      exact ⟨_, tally_pos h⟩
    · exact ih h0

theorem dueAll_pos (c : Dev nD) {g : GSem nD τ sig} {u : Unit} (h : 0 < dueAll c g u) :
    g = gcell (peer c) none ∨ ∃ k, g = gcell (peer c) (some (2, k)) := by
  unfold dueAll at h
  rw [Pi.add_apply, Finsupp.add_apply] at h
  rcases Nat.eq_zero_or_pos (due c 4 g u) with h0 | h0
  · rw [h0, Nat.zero_add] at h
    exact Or.inl (tally_pos h)
  · exact Or.inr (due_pos c 4 h0)

/-- A device may wait on a semaphore of its own when everything it owes is at a higher level. -/
theorem may_wait (c : Dev nD) (s : SemLoc sig) (O : CellTallies nD τ sig Unit) (n : ℕ) (hs : lev s ≤ n)
    (hO : ∀ g u, 0 < O g u → g.1.2 = .tc ∧ n < lev g.2) :
    (levAts L lv : sProp 𝕄) ⊢ MayWait (c : Thread nD τ) s () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem may_wait_due (c : Dev nD) (s : SemLoc sig) (r : ℕ) (hs : lev s ≤ 1) :
    (levAts L lv : sProp 𝕄) ⊢ MayWait (c : Thread nD τ) s () (due c r) :=
  may_wait c s _ 1 hs fun g u hg => by
    obtain ⟨k, rfl⟩ := due_pos c r hg
    exact ⟨rfl, by show 1 < lev (csem (some (2, k))); rw [lev_recv]; decide⟩

theorem may_wait_all (c : Dev nD) (s : SemLoc sig) (hs : lev s ≤ 0) :
    (levAts L lv : sProp 𝕄) ⊢ MayWait (c : Thread nD τ) s () (dueAll c) :=
  may_wait c s _ 0 hs fun g u hg => by
    rcases dueAll_pos c hg with rfl | ⟨k, rfl⟩
    · exact ⟨rfl, by show 0 < lev (csem none); rw [lev_bar]; decide⟩
    · exact ⟨rfl, by show 0 < lev (csem (some (2, k))); rw [lev_recv]; decide⟩

theorem may_wait_none (c : Dev nD) (s : SemLoc sig) : (levAts L lv : sProp 𝕄) ⊢ MayWait (c : Thread nD τ) s () 0 := by
  rw [MayWait_zero]; iintro -; iempintro

end Cert.ZGather

end
-- ==== Proof.Steps.lean ====
/- What each stage of a block does to the memory and the semaphores, stated once for every block `k`:
   the fetch, the meeting of the partners, the forward, the settling; and how a stage done for the four
   blocks in turn adds up. -/
module

public import proofs.«01_k».proof.Proof.Cells

@[expose] public section

noncomputable section

namespace Cert.ZGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ UU ℕ

variable (m : (ℓ : Loc nD τ sig) → Buf (Elt F) ℓ) (K : Dev nD × Cell → ℕ)

abbrev 𝒱₀ : Variants := Variants.none

/-- A program on device `c` runs safely to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem runs_ret (c : Dev nD) {α : Type} (a : α) (Q : α → sProp 𝕄) : Q a ⊢ runs c (.ret a) Q := by
  unfold runs
  rw [wp_ret]
  iintro H; imodintro; iexact H

theorem runs_bind (c : Dev nD) {α : Type} (p : Prog (TpuEff nD τ sig (Elt F) Λ₀ .tc) PUnit)
    (q : Prog (TpuEff nD τ sig (Elt F) Λ₀ .tc) α) (Q : α → sProp 𝕄) :
    runs c p (fun _ => runs c q Q) ⊢ runs c (p >>= fun _ => q) Q := by
  unfold runs
  rw [wp_bind]

/-- What every device knows: each cell's invariant, that its one round is open, and the levels. -/
def known : sProp 𝕄 :=
  iprop((bigSep Finset.univ fun x : Dev nD × Cell =>
      iprop(cellInv ER (Rd m) (K x) (gcell x.1 x.2) ∗ reached ER (gcell x.1 x.2) 0)) ∗ levAts L lv)

instance known_persistent : BI.Persistent (known m K) := by unfold known; infer_instance

theorem known_cell (c : Dev nD) (i : Cell) :
    known m K ⊢ iprop(cellInv ER (Rd m) (K (c, i)) (gcell c i) ∗ reached ER (gcell c i) 0) := by
  unfold known
  exact (sep_mono_right (PROP := sProp 𝕄) Laws.affine).trans ((sep_emp (PROP := sProp 𝕄)).1.trans (bigSep_elim (Finset.mem_univ (c, i))))

theorem known_levels : known m K ⊢ levAts L lv := by
  unfold known
  iintro ⟨-, H⟩
  iexact H

/-- Device `c` owes `O`, whatever its waits have recorded. -/
abbrev owing (c : Dev nD) (O : CellTallies nD τ sig Unit) : sProp 𝕄 := iprop(∃ W, owes (c : Thread nD τ) O W)

/-- The position of cell `i` of device `c`: before its round, after it. -/
abbrev fresh (c : Dev nD) (i : Cell) : sProp 𝕄 := atPos ER (gcell c i) 0 ∅ 0
abbrev spent (c : Dev nD) (i : Cell) : sProp 𝕄 := atPos ER (gcell c i) 1 ∅ 0
/-- The right to pay into cell `i` of device `c`, and the credit to wait on it. -/
abbrev right (c : Dev nD) (i : Cell) : sProp 𝕄 := dutyTok ER (gcell c i) 0 ()
abbrev claim (c : Dev nD) (i : Cell) : sProp 𝕄 := cred (tallyAt (gcell c i) () (amt i))

/-- A wait on cell `i` for all it will ever carry: the wait hands over what the cell carries. -/
theorem wait_cell (c : Dev nD) (i : Cell) (s : SemLoc sig) (hs : s = csem i) (n : ℕ) (hn : n = amt i)
    {w : TpuEff nD τ sig (Elt F) Λ₀ (c : Thread nD τ).2 PUnit}
    (hw : ∀ Q : PUnit → sProp 𝕄, wpE (defs₀ (F := F)) 𝒱₀ (c : Thread nD τ) none Set.univ w Q = waitSpec (c : Thread nD τ) Set.univ s n Q)
    (O : CellTallies nD τ sig Unit) (hO : (levAts L lv : sProp 𝕄) ⊢ MayWait (c : Thread nD τ) s () O)
    {α : Type} {k : PUnit → Prog (TpuEff nD τ sig (Elt F) Λ₀ .tc) α} {Q : α → sProp 𝕄} :
    iprop(known m K ∗ claim c i ∗ owing c O ∗ fresh c i)
      ⊢ iprop(((owing c O ∗ spent c i ∗ pay m c i) -∗ runs c (k ⟨⟩) Q) -∗ runs c (.op w k) Q) := by
  subst hs hn
  iintro ⟨#HK, Hc, ⟨%W, HO⟩, Hat⟩ Hk
  ihave Hcell := (known_cell m K c i) $$ HK
  icases Hcell with ⟨#HI, -⟩
  iapply (Rounds.wp_wait_rest_token 𝒱₀ ER (Rd m) (c : Thread nD τ) none (κ := K (c, i)) hw (Set.mem_univ _) ()
    (O := O) (W := W) (R := 0) (m := 0) (T := ∅) (by rw [Nat.zero_add]; exact (expect_cell m c i).symm)) $$ [Hc HO Hat]
  · isplitr; · iexact HI
    isplitl [Hc]; · iexact Hc
    isplitl [HO]; · iexact HO
    isplitr
    · iapply hO
      iapply (known_levels m K) $$ HK
    iexact Hat
  iintro ⟨HO, Hat, -, Hp⟩
  ihave Hp := (Entails.of_eq (rest_cell m c i)) $$ Hp
  iapply Hk
  isplitl [HO]; · iexists _; iexact HO
  isplitl [Hat]; · iexact Hat
  iexact Hp

/-- The same for the wait on a copy. -/
theorem wait_dma (c : Dev nD) (i : Cell) (s : DmaSem sig) (hs : SemLoc.dma s = csem i) {sp sp' : Space} {sh sh' : Shape} {e e' : EltTy}
    {src : Memref sig .tc sp' sh' e'} {dst : Memref sig .tc sp sh e} (hn : dst.view.dmaCredit = amt i)
    {hsrc : src.view.WordExact} {hdst : dst.view.WordExact}
    (O : CellTallies nD τ sig Unit) (hO : (levAts L lv : sProp 𝕄) ⊢ MayWait (c : Thread nD τ) (.dma s) () O)
    {α : Type} {k : PUnit → Prog (TpuEff nD τ sig (Elt F) Λ₀ .tc) α} {Q : α → sProp 𝕄} :
    iprop(known m K ∗ claim c i ∗ owing c O ∗ fresh c i)
      ⊢ iprop(((owing c O ∗ spent c i ∗ pay m c i) -∗ runs c (k ⟨⟩) Q) -∗ runs c (.op (.waitDma2 s src dst hsrc hdst) k) Q) :=
  wait_cell m K c i (.dma s) hs _ hn (fun _ => wpE_waitDma2_eq 𝒱₀ (c : Thread nD τ) none Set.univ _) O hO

/-- The fetch of block `k`: it gives up the rows and the slot for the credit to wait for both. -/
theorem fetch_step (c : Dev nD) (k : Fin 4) (Q : PUnit → sProp 𝕄) :
    iprop(known m K ∗ (has c (srcM k) (blk m c k) ∗ some' c (slotM k) ∗ right c (some (0, k)))
        ∗ (claim c (some (0, k)) -∗ Q ⟨⟩))
      ⊢ runs c (fetch k) Q := by
  unfold fetch some' has owns
  simp only [Prog.lift]
  iintro ⟨#HK, ⟨⟨%fs, %hfs, Hsrc⟩, ⟨%w, %fd, %hfd, Hdst⟩, Htok⟩, Hk⟩
  ihave Hcell := (known_cell m K c (some (0, k))) $$ HK
  icases Hcell with ⟨#HI, #Hr⟩
  iapply (Rounds.wp_copy_pointsTo 𝒱₀ ER (Rd m) (c : Thread nD τ) none (src := srcM k) (dst := slotM k) (sem := .dma (loadS k))
    (q := fullShare) (fs := fs) (fd := fd) (r := 0) (d := ()) (κ := K (c, some (0, k)))
    (mem_duties m c (some (0, k))) () loadN rfl (amount_cell m c (some (0, k)) 0 ())
    (by
      rw [show (Rd m).payload ((c : Thread nD τ), SemLoc.dma (loadS k)) 0 () = _ from payload_cell m c (some (0, k)) 0 ()]
      show _ ⊢ iprop(has c (slotM k) (blk m c k) ∗ has c (srcM k) (blk m c k))
      unfold has owns
      iintro ⟨H1, H2⟩
      isplitl [H1]
      · iexists _; isplitr; swap
        · iexact H1
        · ipureintro; rw [View.read_write_univ, hfs]
      · iexists _; isplitr; swap
        · iexact H2
        · ipureintro; exact hfs)) $$ [Hsrc Hdst Htok]
  · isplitr; · iexact HI
    isplitl [Hsrc]; · iexact Hsrc
    isplitl [Hdst]; · iexact Hdst
    isplitl [Htok]; · iexact Htok
    iexact Hr
  iintro Hc
  iapply (runs_ret c)
  iapply Hk
  iexact Hc

/-- The meeting: each partner leaves the other the room for its blocks. -/
theorem meet_step (c t : Dev nD) (ht : t = peer c) (Q : PUnit → sProp 𝕄) :
    iprop(known m K ∗ (owing c (dueAll c) ∗ right (peer c) none ∗ claim c none ∗ fresh c none
          ∗ bigSep Finset.univ fun k : Fin 4 => some' (F := F) c (outM (peer c) k))
        ∗ ((owing c (due c 4) ∗ spent c none ∗ bigSep Finset.univ fun k : Fin 4 => some' (F := F) (peer c) (outM c k)) -∗ Q ⟨⟩))
      ⊢ runs c (meet t) Q := by
  unfold meet
  subst ht
  simp only [semSignalWord, semWaitWord, Prog.bind_op, Prog.bind_ret]
  iintro ⟨#HK, ⟨⟨%W, HO⟩, Htok, Hc, Hat, Hroom⟩, Hk⟩
  ihave Hcell := (known_cell m K (peer c) none) $$ HK
  icases Hcell with ⟨#HI, #Hr⟩
  iapply (Rounds.wp_signal 𝒱₀ ER (Rd m) (c : Thread nD τ) none (dst := (peer c : Thread nD τ)) (κ := K (peer c, none))
      (d := ()) (mem_duties m (peer c) none) ((amount_cell m (peer c) none 0 ()).trans (by decide)) () (due c 4) rfl)
    $$ [HO Htok Hroom]
  · isplitr; · iexact HI
    isplitl [HO]; · iexact HO
    isplitl [Htok]; · iexact Htok
    isplitl [Hroom]
    · iapply (Entails.of_eq (show (bigSep Finset.univ fun k : Fin 4 => some' (peer (peer c)) (outM (peer c) k))
        = (Rd m).payload ((peer c : Thread nD τ), SemLoc.reg barS) 0 () from (payload_cell m (peer c) none 0 ()).symm))
      rw [peer_peer]
      iexact Hroom
    · iexact Hr
  iintro HO
  iapply (wait_cell m K c none _ rfl _ (by decide) (wpE_semWait_eq 𝒱₀ (c : Thread nD τ) none Set.univ) (due c 4)
    (may_wait_due c _ 4 (by decide))) $$ [Hc HO Hat]
  · isplitr; · iexact HK
    isplitl [Hc]; · iexact Hc
    isplitl [HO]; · iexists _; iexact HO
    iexact Hat
  iintro ⟨HO, Hat, Hp⟩
  ihave Hp := (Entails.of_eq (pay_bar m c)) $$ Hp
  iapply (runs_ret c)
  iapply Hk
  isplitl [HO]; · iexact HO
  isplitl [Hat]; · iexact Hat
  iexact Hp

/-- The stored rows are the rounded block, whatever way the slot is read. -/
theorem stored_eq (k : Fin 4) (f : (cc0_scratch0 : Ref sig .tc).ty.Contents (Elt F)) :
    k0_pay1 (scrM.view.readAt (Elt F) (slotR k).toLoadRect f) = truncf .bf16 ((slotM k).view.read (Elt F) f) bitsLt_bf16_f32 := rfl

theorem slot_set (k : Fin 4) : (slotM k).view.set = (scrM.access (slotR k)).set := View.set_reshape _ _

/-- Reading a slot. -/
theorem read_slot (c : Dev nD) (k : Fin 4) (X : S128x512.Idx → Elt F .f32) {hl : scrM.view.LoadsAt (slotR k).toLoadRect} {α : Type}
    {g : Vec F S1x128x512 .f32 → Prog (TpuEff nD τ sig (Elt F) Λ₀ .tc) α} {Q : α → sProp 𝕄} :
    has c (slotM k) X
      ⊢ iprop((∀ v, ⌜k0_pay1 v = truncf .bf16 X bitsLt_bf16_f32⌝ -∗ has c (slotM k) X -∗ runs c (g v) Q)
        -∗ runs c (.op (.load scrM (slotR k).toLoadRect hl) g) Q) := by
  unfold has owns
  iintro ⟨%f, %hf, H⟩ Hk
  iapply (wp_load 𝒱₀ (c : Thread nD τ) none Set.univ (m := scrM) (r := (slotR k).toLoadRect)
    (by rw [slot_set]; exact (View.set_slice _ _).symm.subset)) $$ H
  iintro H
  iapply Hk
  · ipureintro; rw [stored_eq, hf]
  · iexists f; isplitr
    · ipureintro; exact hf
    · iexact H

/-- Reading a block of the result, the value unused. -/
theorem read_out (c : Dev nD) (k : Fin 4) {hl : resM.view.LoadsAt (outR c k).toLoadRect} {α : Type}
    {p : Prog (TpuEff nD τ sig (Elt F) Λ₀ .tc) α} {Q : α → sProp 𝕄} :
    some' (F := F) c (outM c k)
      ⊢ iprop((some' (F := F) c (outM c k) -∗ runs c p Q)
        -∗ runs c (.op (.load resM (outR c k).toLoadRect hl) fun _ => p) Q) := by
  unfold some' has owns
  iintro ⟨%X, %f, %hf, H⟩ Hk
  iapply (wp_load 𝒱₀ (c : Thread nD τ) none Set.univ (m := resM) (r := (outR c k).toLoadRect)
    (by exact (View.set_slice _ _).symm.subset)) $$ H
  iintro H
  iapply Hk
  iexists X, f; isplitr
  · ipureintro; exact hf
  · iexact H

/-- Filling a block of the result. -/
theorem fill_out (c : Dev nD) (k : Fin 4) (Y : FVec F S128x512 .bf16) {hx : (resM.access (outR c k)).Stores Finset.univ}
    {hm : (Finset.univ : Finset (outR c k).shape.Idx) = Finset.univ ∨ ∀ a, (outR c k).stride a = 1} {α : Type}
    {g : PUnit → Prog (TpuEff nD τ sig (Elt F) Λ₀ .tc) α} {Q : α → sProp 𝕄} :
    some' (F := F) c (outM c k)
      ⊢ iprop((has c (outM c k) Y -∗ runs c (g ⟨⟩) Q)
        -∗ runs c (.op (.store resM (outR c k) Y Finset.univ hx hm) g) Q) := by
  unfold some' has owns
  iintro ⟨%X, %f, %hf, H⟩ Hk
  iapply (wp_store 𝒱₀ (c : Thread nD τ) none Set.univ (m := resM) (r := outR c k) (Mk := Finset.univ)
    (by rw [View.setOn_univ])) $$ H
  iintro H
  iapply Hk
  iexists _; isplitr; swap
  · iexact H
  · ipureintro; exact View.read_write_univ _ _

/-- The remote copy of a filled block. -/
theorem send_out (c : Dev nD) (k : Fin 4) {hsc : (outM c k).view.ref.isScScratch = false}
    {hsrc : (outM c k).view.WordExact} {hdst : (outM c k).view.WordExact}
    {hsem : DmaTarget.Typed .vmem (.dma (recvS k)) (.remote (peer c : Thread nD τ) (outM c k) (.dma (sendS k)) hsc)}
    {α : Type} {g : PUnit → Prog (TpuEff nD τ sig (Elt F) Λ₀ .tc) α} {Q : α → sProp 𝕄} :
    iprop(known m K ∗ has c (outM c k) (sent m c k) ∗ some' (F := F) (peer c) (outM c k) ∗ owing c (due c (4 - k.val))
        ∗ right c (some (1, k)) ∗ right (peer c) (some (2, k)))
      ⊢ iprop(((claim c (some (1, k)) ∗ owing c (due c (3 - k.val))) -∗ runs c (g ⟨⟩) Q)
        -∗ runs c (.op (.enqueueDma (outM c k) (.remote (peer c : Thread nD τ) (outM c k) (.dma (sendS k)) hsc) (.dma (recvS k)) hsrc hdst hsem) g) Q) := by
  rw [due_step c k]
  unfold some' has owns
  iintro ⟨#HK, ⟨%f, %hf, Hout⟩, ⟨%X, %f', %hf', Hroom⟩, ⟨%W, HO⟩, Ht1, Ht2⟩ Hk
  ihave Hcell1 := (known_cell m K c (some (1, k))) $$ HK
  icases Hcell1 with ⟨#HI1, #Hr1⟩
  ihave Hcell2 := (known_cell m K (peer c) (some (2, k))) $$ HK
  icases Hcell2 with ⟨#HI2, #Hr2⟩
  iapply (Rounds.wp_send_pointsTo 𝒱₀ ER (Rd m) (c : Thread nD τ) none (c' := (peer c : Thread nD τ)) (src := outM c k) (dst := outM c k)
    (sS := .dma (sendS k)) (sem := .dma (recvS k)) (q := fullShare) (fs := f) (fd := f')
    (r₁ := 0) (r₂ := 0) (d₁ := ()) (d₂ := ()) (κ₁ := K (c, some (1, k))) (κ₂ := K (peer c, some (2, k)))
    (mem_duties m c (some (1, k))) (mem_duties m (peer c) (some (2, k))) () () moveN rfl
    (amount_cell m c (some (1, k)) 0 ()) (amount_cell m (peer c) (some (2, k)) 0 ()) (due c (3 - k.val)) rfl (W := W)
    (by
      rw [show (Rd m).payload ((c : Thread nD τ), SemLoc.dma (sendS k)) 0 () = _ from payload_cell m c (some (1, k)) 0 (), pay_send]
      unfold has owns
      iintro H
      iexists f; isplitr
      · ipureintro; exact hf
      · iexact H)
    (by
      rw [show (Rd m).payload ((peer c : Thread nD τ), SemLoc.dma (recvS k)) 0 () = _ from payload_cell m (peer c) (some (2, k)) 0 (),
        pay_recv, peer_peer]
      unfold has owns
      iintro H
      iexists _; isplitr; swap
      · iexact H
      · ipureintro
        exact (View.read_write_univ _ _).trans hf)) $$ [Hout Hroom HO Ht1 Ht2]
  · isplitr; · iexact HI1
    isplitr; · iexact HI2
    isplitl [Hout]; · iexact Hout
    isplitl [Hroom]; · iexact Hroom
    isplitl [HO]; · iexact HO
    isplitl [Ht1]; · iexact Ht1
    isplitr; · iexact Hr1
    isplitl [Ht2]; · iexact Ht2
    iexact Hr2
  iintro ⟨Hc1, HO⟩
  iapply Hk
  isplitl [Hc1]; · iexact Hc1
  iexists _; iexact HO

/-- The forward of block `k`: with the slot filled, this device's rows hold the rounded block and are on
    their way to the partner. -/
theorem forward_step (c t : Dev nD) (ht : t = peer c) (k : Fin 4) (Q : PUnit → sProp 𝕄) :
    iprop(known m K ∗ (owing c (due c (4 - k.val)) ∗ claim c (some (0, k)) ∗ fresh c (some (0, k))
          ∗ some' (F := F) c (outM c k) ∗ some' (F := F) (peer c) (outM c k) ∗ right c (some (1, k)) ∗ right (peer c) (some (2, k)))
        ∗ ((owing c (due c (3 - k.val)) ∗ spent c (some (0, k)) ∗ has c (slotM k) (blk m c k) ∗ has c (srcM k) (blk m c k)
            ∗ claim c (some (1, k))) -∗ Q ⟨⟩))
      ⊢ runs c (forward c t k) Q := by
  unfold forward
  subst ht
  simp only [Prog.lift, Prog.bind_op, Prog.bind_ret]
  iintro ⟨#HK, ⟨HO, Hc, Hat, Hout, Hroom, Ht1, Ht2⟩, Hk⟩
  iapply (wait_dma m K c (some (0, k)) (loadS k) rfl (src := srcM k) (dst := slotM k) rfl _
    (may_wait_due c _ (4 - k.val) (by show lev (csem (some (0, k))) ≤ 1; rw [lev_load]; decide))) $$ [Hc HO Hat]
  · isplitr; · iexact HK
    isplitl [Hc]; · iexact Hc
    isplitl [HO]; · iexact HO
    iexact Hat
  iintro ⟨HO, Hat, Hp⟩
  ihave Hp := (Entails.of_eq (pay_load m c k)) $$ Hp
  icases Hp with ⟨Hslot, Hsrc⟩
  iapply (read_slot c k (blk m c k)) $$ Hslot
  iintro %v %hv Hslot
  iapply (read_out c k) $$ Hout
  iintro Hout
  iapply (fill_out c k (k0_pay1 v)) $$ Hout
  rw [hv]
  iintro Hout
  iapply (send_out m K c k) $$ [Hout Hroom HO Ht1 Ht2]
  · isplitr; · iexact HK
    isplitl [Hout]; · iexact Hout
    isplitl [Hroom]; · iexact Hroom
    isplitl [HO]; · iexact HO
    isplitl [Ht1]; · iexact Ht1
    iexact Ht2
  iintro ⟨Hc1, HO⟩
  iapply (runs_ret c)
  iapply Hk
  isplitl [HO]; · iexact HO
  isplitl [Hat]; · iexact Hat
  isplitl [Hslot]; · iexact Hslot
  isplitl [Hsrc]; · iexact Hsrc
  iexact Hc1

/-- The settling of block `k`: this device's rows are back, and the partner's are here. -/
theorem settle_step (c : Dev nD) (k : Fin 4) (Q : PUnit → sProp 𝕄) :
    iprop(known m K ∗ (owing c 0 ∗ claim c (some (1, k)) ∗ fresh c (some (1, k)) ∗ claim c (some (2, k)) ∗ fresh c (some (2, k)))
        ∗ ((owing c 0 ∗ spent c (some (1, k)) ∗ spent c (some (2, k)) ∗ has c (outM c k) (sent m c k)
            ∗ has c (outM (peer c) k) (sent m (peer c) k)) -∗ Q ⟨⟩))
      ⊢ runs c (settle c k) Q := by
  unfold settle
  simp only [Prog.lift, Prog.bind_op, Prog.bind_ret]
  iintro ⟨#HK, ⟨HO, Hc1, Hat1, Hc2, Hat2⟩, Hk⟩
  iapply (wait_dma m K c (some (1, k)) (sendS k) rfl (src := outM c k) (dst := outM c k) rfl _
    (may_wait_none c _)) $$ [Hc1 HO Hat1]
  · isplitr; · iexact HK
    isplitl [Hc1]; · iexact Hc1
    isplitl [HO]; · iexact HO
    iexact Hat1
  iintro ⟨HO, Hat1, Hp1⟩
  iapply (wait_dma m K c (some (2, k)) (recvS k) rfl (src := outM c k) (dst := outM c k) rfl _
    (may_wait_none c _)) $$ [Hc2 HO Hat2]
  · isplitr; · iexact HK
    isplitl [Hc2]; · iexact Hc2
    isplitl [HO]; · iexact HO
    iexact Hat2
  iintro ⟨HO, Hat2, Hp2⟩
  iapply (runs_ret c)
  iapply Hk
  isplitl [HO]; · iexact HO
  isplitl [Hat1]; · iexact Hat1
  isplitl [Hat2]; · iexact Hat2
  isplitl [Hp1]
  · iapply (Entails.of_eq (pay_send m c k)) $$ Hp1
  · iapply (Entails.of_eq (pay_recv m c k)) $$ Hp2

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A stage done for the four blocks in turn: what it needs and leaves besides the blocks' own is passed on
    from each block to the next. -/
theorem each_step (c : Dev nD) (f : Fin 4 → Prog (TpuEff nD τ sig (Elt F) Λ₀ .tc) PUnit) (I : ℕ → sProp 𝕄) (A B : Fin 4 → sProp 𝕄)
    (hf : ∀ (k : Fin 4) (Q : PUnit → sProp 𝕄),
      iprop(known m K ∗ (I (4 - k.val) ∗ A k) ∗ ((I (3 - k.val) ∗ B k) -∗ Q ⟨⟩)) ⊢ runs c (f k) Q)
    {β : Type} (p : Prog (TpuEff nD τ sig (Elt F) Λ₀ .tc) β) (Q : β → sProp 𝕄) :
    iprop(known m K ∗ (I 4 ∗ bigSep Finset.univ A) ∗ ((I 0 ∗ bigSep Finset.univ B) -∗ runs c p Q)) ⊢ runs c (each f p) Q := by
  have h0 : ∀ Q : PUnit → sProp 𝕄, iprop(known m K ∗ (I 4 ∗ A 0) ∗ ((I 3 ∗ B 0) -∗ Q ⟨⟩)) ⊢ runs c (f 0) Q := hf 0
  have h1 : ∀ Q : PUnit → sProp 𝕄, iprop(known m K ∗ (I 3 ∗ A 1) ∗ ((I 2 ∗ B 1) -∗ Q ⟨⟩)) ⊢ runs c (f 1) Q := hf 1
  have h2 : ∀ Q : PUnit → sProp 𝕄, iprop(known m K ∗ (I 2 ∗ A 2) ∗ ((I 1 ∗ B 2) -∗ Q ⟨⟩)) ⊢ runs c (f 2) Q := hf 2
  have h3 : ∀ Q : PUnit → sProp 𝕄, iprop(known m K ∗ (I 1 ∗ A 3) ∗ ((I 0 ∗ B 3) -∗ Q ⟨⟩)) ⊢ runs c (f 3) Q := hf 3
  unfold each
  rw [four A, four B]
  iintro ⟨#HK, ⟨HI, H0, H1, H2, H3⟩, Hk⟩
  iapply (runs_bind c)
  iapply (h0)
  isplitr; · iexact HK
  isplitl [HI H0]; · isplitl [HI]; · iexact HI
                     iexact H0
  iintro ⟨HI, H0⟩
  iapply (runs_bind c)
  iapply (h1)
  isplitr; · iexact HK
  isplitl [HI H1]; · isplitl [HI]; · iexact HI
                     iexact H1
  iintro ⟨HI, H1⟩
  iapply (runs_bind c)
  iapply (h2)
  isplitr; · iexact HK
  isplitl [HI H2]; · isplitl [HI]; · iexact HI
                     iexact H2
  iintro ⟨HI, H2⟩
  iapply (runs_bind c)
  iapply (h3)
  isplitr; · iexact HK
  isplitl [HI H3]; · isplitl [HI]; · iexact HI
                     iexact H3
  iintro ⟨HI, H3⟩
  iapply Hk
  isplitl [HI]; · iexact HI
  isplitl [H0]; · iexact H0
  isplitl [H1]; · iexact H1
  isplitl [H2]; · iexact H2
  iexact H3

end Cert.ZGather

end
-- ==== Proof.Bands.lean ====
/- The three buffers cut into the pieces the blocks work on, and put together again: the argument into
   four bands of rows, the scratch buffer into four slots, the result into the eight bands that the
   device and its partner fill, four each. -/
module

public import proofs.«01_k».proof.Proof.Cells
public import Idealize.ShloMosaic.Lib.Ring

@[expose] public section

noncomputable section

namespace Cert.ZGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ UU ℕ

variable (m : (ℓ : Loc nD τ sig) → Buf (Elt F) ℓ)

/-! ## The argument -/

theorem src_disjoint (k l : Fin 4) (h : k ≠ l) : Disjoint (srcR k).set (srcR l).set :=
  Rect.unit_disjoint 0 (by
    have : k.val ≠ l.val := fun e => h (Fin.ext e)
    show 128 * k.val + 128 ≤ 128 * l.val ∨ 128 * l.val + 128 ≤ 128 * k.val
    omega)

theorem src_cover : (Finset.univ : Finset (Fin 4)).biUnion (fun k => (srcR k).set) = Finset.univ := by
  ext i
  have h0 : (i 0).val < 512 := (i 0).isLt
  have h1 : (i 1).val < 512 := (i 1).isLt
  simp only [Finset.mem_biUnion, Finset.mem_univ, true_and, iff_true]
  refine ⟨⟨(i 0).val / 128, by omega⟩, Rect.mem_set_unit.mpr fun a => ?_⟩
  fin_cases a
  · show 128 * ((i 0).val / 128) ≤ (i 0).val ∧ (i 0).val < 128 * ((i 0).val / 128) + 128
    omega
  · show 0 ≤ (i 1).val ∧ (i 1).val < 0 + 512
    omega

/-- Holding the argument is holding its four bands. -/
theorem arg_bands (c : Dev nD) :
    (((c : Thread nD τ).loc main_arg0) ↦{fullShare} m ((c : Thread nD τ).loc main_arg0) : sProp 𝕄)
      = bigSep Finset.univ fun k : Fin 4 => has c (srcM k) (blk m c k) := by
  have h := pointsTo_rects (Ix := Unit) (Name := ℕ) (U := UU) (Lvl := ℕ) (c : Thread nD τ) argM fullShare srcR (fun _ _ => rfl)
    src_disjoint src_cover (m ((c : Thread nD τ).loc main_arg0))
  rw [show argM.view.set = Finset.univ from View.set_whole _] at h
  exact h

/-! ## The scratch buffer -/

theorem slot_disjoint (k l : Fin 4) (h : k ≠ l) : Disjoint (slotR k).set (slotR l).set :=
  Rect.unit_disjoint 0 (by
    have : k.val ≠ l.val := fun e => h (Fin.ext e)
    show k.val + 1 ≤ l.val ∨ l.val + 1 ≤ k.val
    omega)

theorem slot_cover : (Finset.univ : Finset (Fin 4)).biUnion (fun k => (slotR k).set) = Finset.univ := by
  ext i
  have h0 : (i 0).val < 4 := (i 0).isLt
  have h1 : (i 1).val < 128 := (i 1).isLt
  have h2 : (i 2).val < 512 := (i 2).isLt
  simp only [Finset.mem_biUnion, Finset.mem_univ, true_and, iff_true]
  refine ⟨⟨(i 0).val, h0⟩, Rect.mem_set_unit.mpr fun a => ?_⟩
  fin_cases a
  · show (i 0).val ≤ (i 0).val ∧ (i 0).val < (i 0).val + 1
    omega
  · show 0 ≤ (i 1).val ∧ (i 1).val < 0 + 128
    omega
  · show 0 ≤ (i 2).val ∧ (i 2).val < 0 + 512
    omega

theorem slot_elems (k : Fin 4) : (slotM k).view.set = (slotR k).set :=
  (View.set_reshape _ _).trans (View.set_slice_whole _ _)

theorem scratch_split (c : Dev nD) :
    (iprop(∃ f : Buf (Elt F) ((c : Thread nD τ).loc cc0_scratch0), ((c : Thread nD τ).loc cc0_scratch0) ↦{fullShare} f) : sProp 𝕄)
      ⊢ bigSep Finset.univ fun k : Fin 4 => some' (F := F) c (slotM k) := by
  have h (f : Buf (Elt F) ((c : Thread nD τ).loc cc0_scratch0)) (k : Fin 4) :
      (((c : Thread nD τ).loc cc0_scratch0) ↦[(slotR k).set]{fullShare} f : sProp 𝕄) ⊢ some' c (slotM k) := by
    unfold some' has owns
    rw [slot_elems]
    iintro H
    iexists _, f; isplitr
    · ipureintro; rfl
    · iexact H
  refine exists_elim fun f => ?_
  rw [Ring.pointsTo_blocks (fun k => (slotR k).set) slot_disjoint slot_cover f]
  exact bigSep_mono fun k _ => h f k

theorem scratch_join (c : Dev nD) (X : Fin 4 → S128x512.Idx → Elt F .f32) :
    (bigSep Finset.univ fun k : Fin 4 => has c (slotM k) (X k))
      ⊢ (iprop(∃ f : Buf (Elt F) ((c : Thread nD τ).loc cc0_scratch0), ((c : Thread nD τ).loc cc0_scratch0) ↦{fullShare} f) : sProp 𝕄) := by
  have h (k : Fin 4) : has c (slotM k) (X k)
      ⊢ (iprop(∃ f : Buf (Elt F) ((c : Thread nD τ).loc cc0_scratch0), ((c : Thread nD τ).loc cc0_scratch0) ↦[(slotR k).set]{fullShare} f) : sProp 𝕄) := by
    unfold has owns
    rw [slot_elems]
    iintro ⟨%f, -, H⟩
    iexists f; iexact H
  have f₀ : (cc0_scratch0 : Ref sig .tc).ty.Contents (Elt F) :=
    fun _ => X 0 fun a => ⟨0, by fin_cases a <;> decide⟩
  exact (bigSep_mono fun k _ => h k).trans
    (Ring.pointsTo_blocks_join_exists (ℓ := (c : Thread nD τ).loc cc0_scratch0) (fun k => (slotR k).set) slot_disjoint slot_cover f₀)

/-! ## The result -/

/-- Of the two partners: the device itself, and the other one. -/
def side (c : Dev nD) (b : Bool) : Dev nD := if b then peer c else c

/-- The band that partner `t.1` fills with block `t.2`. -/
abbrev bandR (c : Dev nD) (t : Bool × Fin 4) : Rect S1024x512 := outR (side c t.1) t.2

theorem off_eq (d : Dev nD) (k : Fin 4) : k0_off2 d (BitVec.ofNat 32 (128 * k.val)) = ![512 * (d.val % 2) + 128 * k.val, 0] := k0_off2_eq d k

theorem side_mod (c : Dev nD) (b : Bool) : (side c b).val % 2 = if b then 1 - c.val % 2 else c.val % 2 := by
  unfold side
  cases b
  · rfl
  · exact peer_mod c

theorem mem_out (d : Dev nD) (k : Fin 4) (i : S1024x512.Idx) :
    i ∈ (outR d k).set ↔ 512 * (d.val % 2) + 128 * k.val ≤ (i 0).val ∧ (i 0).val < 512 * (d.val % 2) + 128 * k.val + 128 := by
  have h1 : (i 1).val < 512 := (i 1).isLt
  rw [Rect.mem_set_unit]
  simp only [off_eq]
  constructor
  · intro h; exact h 0
  · intro h a
    fin_cases a
    · exact h
    · show 0 ≤ (i 1).val ∧ (i 1).val < 0 + 512
      omega

theorem band_disjoint (c : Dev nD) (s t : Bool × Fin 4) (h : s ≠ t) : Disjoint (bandR c s).set (bandR c t).set := by
  rw [Finset.disjoint_left]
  intro i hs ht
  rw [mem_out, side_mod] at hs ht
  obtain ⟨a, k⟩ := s
  obtain ⟨b, l⟩ := t
  apply h
  have hk := k.isLt
  have hl := l.isLt
  cases a <;> cases b <;> simp only [Bool.false_eq_true, if_true, if_false] at hs ht <;>
    first
    | exact congrArg (Prod.mk _) (Fin.ext (by omega))
    | (exfalso; omega)

theorem band_cover (c : Dev nD) : (Finset.univ : Finset (Bool × Fin 4)).biUnion (fun t => (bandR c t).set) = Finset.univ := by
  ext i
  have h0 : (i 0).val < 1024 := (i 0).isLt
  simp only [Finset.mem_biUnion, Finset.mem_univ, true_and, iff_true]
  refine ⟨(decide ((i 0).val / 512 ≠ c.val % 2), ⟨(i 0).val % 512 / 128, by omega⟩), ?_⟩
  rw [mem_out, side_mod]
  by_cases h : (i 0).val / 512 = c.val % 2
  · simp only [h, ne_eq, not_true_eq_false, decide_false, Bool.false_eq_true, if_false]
    omega
  · simp only [h, ne_eq, not_false_eq_true, decide_true, if_true]
    omega

/-- A conjunction over the bands is one over the device's own and one over the partner's. -/
theorem over_sides (c : Dev nD) (Φ : Dev nD → Fin 4 → sProp 𝕄) :
    (bigSep Finset.univ fun t : Bool × Fin 4 => Φ (side c t.1) t.2)
      = iprop((bigSep Finset.univ fun k => Φ c k) ∗ bigSep Finset.univ fun k => Φ (peer c) k) := by
  rw [bigSep_univ_prod, bigSep_univ_eq_bigSepL [false, true] (by decide) (by decide), bigSepL_cons_cons, bigSepL_singleton]
  rfl

theorem result_split (c : Dev nD) :
    (iprop(∃ X, has (F := F) c resM X) : sProp 𝕄)
      ⊢ iprop((bigSep Finset.univ fun k : Fin 4 => some' (F := F) c (outM c k))
          ∗ bigSep Finset.univ fun k : Fin 4 => some' (F := F) c (outM (peer c) k)) := by
  rw [← over_sides c fun d k => some' (F := F) c (outM d k)]
  have h (X : S1024x512.Idx → Elt F .bf16) (t : Bool × Fin 4) :
      has c (outM (side c t.1) t.2) (fun j => X ((bandR c t).emb j)) ⊢ some' (F := F) c (outM (side c t.1) t.2) := by
    iintro H; iexists _; iexact H
  exact exists_elim fun X => (owns_rects (c : Thread nD τ) resM fullShare (bandR c) (fun _ _ => rfl) (band_disjoint c) (band_cover c) X).trans
    (bigSep_mono fun t _ => h X t)

/-- The partner whose rows row `r` of the result belongs to, and where it is in that partner's argument. -/
def owner (c : Dev nD) (i : S1024x512.Idx) : Dev nD := if (i 0).val / 512 = c.val % 2 then c else peer c

def rowOf (i : S1024x512.Idx) : S512x512.Idx
  | ⟨0, _⟩ => ⟨(i 0).val % 512, Nat.mod_lt _ (by decide)⟩
  | ⟨1, _⟩ => i 1

/-- The two partners' arguments, one above the other. -/
def stacked (c : Dev nD) : S1024x512.Idx → Elt F .f32 := fun i =>
  (m ((owner c i : Thread nD τ).loc main_arg0) : S512x512.Idx → Elt F .f32) (rowOf i)

/-- The result: every element rounded. -/
def gath (c : Dev nD) : S1024x512.Idx → Elt F .bf16 := truncf .bf16 (stacked m c) bitsLt_bf16_f32

theorem stacked_band (c : Dev nD) (t : Bool × Fin 4) (j : S128x512.Idx) :
    stacked m c ((bandR c t).emb j) = blk m (side c t.1) t.2 j := by
  have hj : (j 0).val < 128 := (j 0).isLt
  have hk := t.2.isLt
  have e0 : (((bandR c t).emb j) 0).val = 512 * ((side c t.1).val % 2) + 128 * t.2.val + (j 0).val := by
    rw [Rect.emb_apply]
    show k0_off2 (side c t.1) (BitVec.ofNat 32 (128 * t.2.val)) 0 + 1 * (j 0).val = _
    rw [off_eq, Nat.one_mul]; rfl
  have e1 : (((bandR c t).emb j) 1).val = (j 1).val := by
    rw [Rect.emb_apply]
    show k0_off2 (side c t.1) (BitVec.ofNat 32 (128 * t.2.val)) 1 + 1 * (j 1).val = _
    rw [off_eq, Nat.one_mul]
    exact Nat.zero_add _
  have ho : owner c ((bandR c t).emb j) = side c t.1 := by
    unfold owner
    rw [e0, side_mod]
    unfold side
    cases t.1
    · rw [if_pos]
      · rfl
      · simp only [Bool.false_eq_true, if_false]; omega
    · rw [if_neg]
      · rfl
      · simp only [if_true]; omega
  have hr : rowOf ((bandR c t).emb j) = (srcR t.2).emb j := by
    funext a
    apply Fin.ext
    rw [Rect.emb_apply]
    fin_cases a
    · show (((bandR c t).emb j) 0).val % 512 = 128 * t.2.val + 1 * (j 0).val
      rw [e0]; omega
    · show (((bandR c t).emb j) 1).val = 0 + 1 * (j 1).val
      rw [e1]; omega
  unfold stacked
  rw [ho, hr]
  rfl

theorem result_join (c : Dev nD) :
    iprop((bigSep Finset.univ fun k : Fin 4 => has c (outM c k) (sent m c k))
        ∗ bigSep Finset.univ fun k : Fin 4 => has c (outM (peer c) k) (sent m (peer c) k))
      ⊢ (has c resM (gath m c) : sProp 𝕄) := by
  rw [← over_sides c fun d k => has c (outM d k) (sent m d k)]
  have h (t : Bool × Fin 4) : sent m (side c t.1) t.2 = fun j => gath m c ((bandR c t).emb j) := by
    have e : blk m (side c t.1) t.2 = fun j => stacked m c ((bandR c t).emb j) := funext fun j => (stacked_band m c t j).symm
    unfold sent gath
    rw [e]
    rfl
  simp only [h]
  exact owns_of_rects (c : Thread nD τ) resM fullShare (bandR c) (fun _ _ => rfl) (band_disjoint c) (band_cover c) (gath m c)

end Cert.ZGather

end
-- ==== Proof.Body.lean ====
/- The body of the kernel on one device: the four stages put together, from the pieces of memory and the
   rights the device starts with to the result gathered and every semaphore back at zero. -/
module

public import proofs.«01_k».proof.Proof.Steps
public import proofs.«01_k».proof.Proof.Bands

@[expose] public section

noncomputable section

namespace Cert.ZGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ UU ℕ

variable (m : (ℓ : Loc nD τ sig) → Buf (Elt F) ℓ) (K : Dev nD × Cell → ℕ)

/-! ## Conjunctions over the cells of a device -/

/-- The conjunction over the four blocks of a device. -/
abbrev blocks (Φ : Fin 4 → sProp 𝕄) : sProp 𝕄 := bigSep Finset.univ Φ

theorem over_cells (Φ : Cell → sProp 𝕄) :
    bigSep Finset.univ Φ
      = iprop(Φ none ∗ blocks (fun k => Φ (some (0, k))) ∗ blocks (fun k => Φ (some (1, k))) ∗ blocks (fun k => Φ (some (2, k)))) := by
  have h : (Finset.univ : Finset Cell).erase none = (Finset.univ : Finset (Fin 3 × Fin 4)).map Function.Embedding.some := by decide
  rw [bigSep_univ_at _ none, h, bigSep_map, bigSep_univ_prod, bigSep_univ_eq_bigSepL [0, 1, 2] (by decide) (by decide)]
  rfl

/-! ## The stages over all blocks -/

theorem fetch_all (c : Dev nD) {β : Type} (p : Prog (TpuEff nD τ sig (Elt F) Λ₀ .tc) β) (Q : β → sProp 𝕄) :
    iprop(known m K
        ∗ (blocks (fun k => has c (srcM k) (blk m c k)) ∗ blocks (fun k => some' c (slotM k)) ∗ blocks (fun k => right c (some (0, k))))
        ∗ (blocks (fun k => claim c (some (0, k))) -∗ runs c p Q))
      ⊢ runs c (each fetch p) Q := by
  iintro ⟨#HK, ⟨Hs, Hd, Ht⟩, Hk⟩
  iapply (each_step m K c fetch (fun _ => iprop(emp))
    (fun k => iprop(has c (srcM k) (blk m c k) ∗ some' c (slotM k) ∗ right c (some (0, k))))
    (fun k => claim c (some (0, k)))
    (fun k Q => by
      iintro ⟨#HK, ⟨-, H⟩, Hk⟩
      iapply (fetch_step m K c k Q)
      isplitr; · iexact HK
      isplitl [H]; · iexact H
      iintro H
      iapply Hk
      isplitr; · iempintro
      iexact H) p Q)
  isplitr; · iexact HK
  isplitl [Hs Hd Ht]
  · isplitr; · iempintro
    rw [bigSep_sep', bigSep_sep']
    isplitl [Hs]; · iexact Hs
    isplitl [Hd]; · iexact Hd
    iexact Ht
  iintro ⟨-, H⟩
  iapply Hk
  iexact H

theorem forward_all (c t : Dev nD) (ht : t = peer c) {β : Type} (p : Prog (TpuEff nD τ sig (Elt F) Λ₀ .tc) β) (Q : β → sProp 𝕄) :
    iprop(known m K
        ∗ (owing c (due c 4) ∗ blocks (fun k => claim c (some (0, k))) ∗ blocks (fun k => fresh c (some (0, k)))
            ∗ blocks (fun k => some' (F := F) c (outM c k)) ∗ blocks (fun k => some' (F := F) (peer c) (outM c k))
            ∗ blocks (fun k => right c (some (1, k))) ∗ blocks (fun k => right (peer c) (some (2, k))))
        ∗ ((owing c 0 ∗ blocks (fun k => spent c (some (0, k))) ∗ blocks (fun k => has c (slotM k) (blk m c k))
            ∗ blocks (fun k => has c (srcM k) (blk m c k)) ∗ blocks (fun k => claim c (some (1, k)))) -∗ runs c p Q))
      ⊢ runs c (each (forward c t) p) Q := by
  iintro ⟨#HK, ⟨HO, H1, H2, H3, H4, H5, H6⟩, Hk⟩
  iapply (each_step m K c (forward c t) (fun r => owing c (due c r))
    (fun k => iprop(claim c (some (0, k)) ∗ fresh c (some (0, k))
          ∗ some' (F := F) c (outM c k) ∗ some' (F := F) (peer c) (outM c k) ∗ right c (some (1, k)) ∗ right (peer c) (some (2, k))))
    (fun k => iprop(spent c (some (0, k)) ∗ has c (slotM k) (blk m c k) ∗ has c (srcM k) (blk m c k) ∗ claim c (some (1, k))))
    (fun k Q => forward_step m K c t ht k Q) p Q)
  isplitr; · iexact HK
  isplitl [HO H1 H2 H3 H4 H5 H6]
  · isplitl [HO]; · iexact HO
    simp only [bigSep_sep']
    isplitl [H1]; · iexact H1
    isplitl [H2]; · iexact H2
    isplitl [H3]; · iexact H3
    isplitl [H4]; · iexact H4
    isplitl [H5]; · iexact H5
    iexact H6
  simp only [bigSep_sep']
  iexact Hk

theorem settle_all (c : Dev nD) {β : Type} (p : Prog (TpuEff nD τ sig (Elt F) Λ₀ .tc) β) (Q : β → sProp 𝕄) :
    iprop(known m K
        ∗ (owing c 0 ∗ blocks (fun k => claim c (some (1, k))) ∗ blocks (fun k => fresh c (some (1, k)))
            ∗ blocks (fun k => claim c (some (2, k))) ∗ blocks (fun k => fresh c (some (2, k))))
        ∗ ((owing c 0 ∗ blocks (fun k => spent c (some (1, k))) ∗ blocks (fun k => spent c (some (2, k)))
            ∗ blocks (fun k => has c (outM c k) (sent m c k)) ∗ blocks (fun k => has c (outM (peer c) k) (sent m (peer c) k)))
          -∗ runs c p Q))
      ⊢ runs c (each (settle c) p) Q := by
  iintro ⟨#HK, ⟨HO, H1, H2, H3, H4⟩, Hk⟩
  iapply (each_step m K c (settle c) (fun _ => owing c 0)
    (fun k => iprop(claim c (some (1, k)) ∗ fresh c (some (1, k)) ∗ claim c (some (2, k)) ∗ fresh c (some (2, k))))
    (fun k => iprop(spent c (some (1, k)) ∗ spent c (some (2, k)) ∗ has c (outM c k) (sent m c k)
      ∗ has c (outM (peer c) k) (sent m (peer c) k)))
    (fun k Q => settle_step m K c k Q) p Q)
  isplitr; · iexact HK
  isplitl [HO H1 H2 H3 H4]
  · isplitl [HO]; · iexact HO
    simp only [bigSep_sep']
    isplitl [H1]; · iexact H1
    isplitl [H2]; · iexact H2
    isplitl [H3]; · iexact H3
    iexact H4
  simp only [bigSep_sep']
  iexact Hk

/-! ## Closing the cells -/

theorem close_cell (c : Dev nD) (i : Cell) : iprop(known m K ∗ spent c i) ⊢ |={Set.univ}=> (semVal (gcell c i) 0 : sProp 𝕄) := by
  iintro ⟨HK, Hat⟩
  ihave H := (known_cell m K c i) $$ HK
  icases H with ⟨HI, -⟩
  iapply (Rounds.cell_close ER (Rd m) (Set.mem_univ (K (c, i))) (fun h => h) (R := 0 + 1) (duties_later m (gcell c i)))
  isplitl [HI]; · iexact HI
  iexact Hat

/-- A shared fact is there for every member of a conjunction. -/
theorem shared {I : Type} [DecidableEq I] (S : Finset I) (R : sProp 𝕄) [BI.Persistent R] {Φ Ψ : I → sProp 𝕄}
    (h : ∀ i, iprop(R ∗ Φ i) ⊢ Ψ i) : iprop(R ∗ bigSep S Φ) ⊢ bigSep S Ψ := by
  have h2 : iprop(bigSep S (fun _ => R) ∗ bigSep S Φ) ⊢ bigSep S Ψ := by
    rw [← bigSep_sep']
    exact bigSep_mono fun i _ => h i
  exact (sep_mono_left (PROP := sProp 𝕄) (BI.bigSep_of_persistent S R)).trans h2

/-- Every semaphore of the device at zero. -/
def rest0 (c : Dev nD) : sProp 𝕄 := bigSep Finset.univ fun i : Cell => semVal (gcell c i) 0

theorem close_all (c : Dev nD) :
    iprop(known m K ∗ bigSep Finset.univ fun i : Cell => spent c i) ⊢ |={Set.univ}=> (rest0 c : sProp 𝕄) :=
  (shared Finset.univ (known m K) fun i => close_cell m K c i).trans (bigSep_fupd _ _)

/-! ## The body -/

/-- The rights a device starts with: its positions, and the payments it is to make. -/
def linear (c : Dev nD) : sProp 𝕄 :=
  iprop((bigSep Finset.univ fun i : Cell => fresh c i)
    ∗ right (peer c) none ∗ blocks (fun k => right c (some (0, k))) ∗ blocks (fun k => right c (some (1, k)))
    ∗ blocks (fun k => right (peer c) (some (2, k))))

/-- The credits it starts with: what its partner owes it. -/
def credits (c : Dev nD) : sProp 𝕄 := iprop(claim c none ∗ blocks (fun k => claim c (some (2, k))))

/-- Its argument, unchanged; its scratch buffer, at anything. -/
def argAt (c : Dev nD) : sProp 𝕄 := ((c : Thread nD τ).loc main_arg0) ↦{fullShare} m ((c : Thread nD τ).loc main_arg0)
def scratch (c : Dev nD) : sProp 𝕄 :=
  iprop(∃ f : Buf (Elt F) ((c : Thread nD τ).loc cc0_scratch0), ((c : Thread nD τ).loc cc0_scratch0) ↦{fullShare} f)

theorem stages_run (c : Dev nD) (Q : PUnit → sProp 𝕄) :
    iprop(known m K ∗ (linear c ∗ credits c ∗ owing c (dueAll c) ∗ argAt m c ∗ scratch c ∗ ∃ X, has (F := F) c resM X)
        ∗ ((owing c 0 ∗ rest0 c ∗ argAt m c ∗ scratch c ∗ has c resM (gath m c)) -∗ Q ⟨⟩))
      ⊢ runs c (stages c) Q := by
  unfold stages linear credits argAt scratch
  rw [arg_bands m c]
  iintro ⟨#HK, ⟨⟨Hf, HrB, Hr0, Hr1, Hr2⟩, ⟨HcB, Hc2⟩, HO, Harg, Hscr, Hres⟩, Hk⟩
  ihave Hf := (Entails.of_eq (over_cells fun i : Cell => fresh (F := F) c i)) $$ Hf
  icases Hf with ⟨HfB, Hf0, Hf1, Hf2⟩
  ihave Hscr := (scratch_split c) $$ Hscr
  ihave Hres := (result_split c) $$ Hres
  icases Hres with ⟨Hmine, Htheirs⟩
  iapply (fetch_all m K c)
  isplitr; · iexact HK
  isplitl [Harg Hscr Hr0]
  · isplitl [Harg]; · iexact Harg
    isplitl [Hscr]; · iexact Hscr
    iexact Hr0
  iintro Hc0
  iapply (runs_bind c)
  iapply (meet_step m K c (target c) (target_eq c))
  isplitr; · iexact HK
  isplitl [HO HrB HcB HfB Htheirs]
  · isplitl [HO]; · iexact HO
    isplitl [HrB]; · iexact HrB
    isplitl [HcB]; · iexact HcB
    isplitl [HfB]; · iexact HfB
    iexact Htheirs
  iintro ⟨HO, HsB, Hroom⟩
  iapply (forward_all m K c (target c) (target_eq c))
  isplitr; · iexact HK
  isplitl [HO Hc0 Hf0 Hmine Hroom Hr1 Hr2]
  · isplitl [HO]; · iexact HO
    isplitl [Hc0]; · iexact Hc0
    isplitl [Hf0]; · iexact Hf0
    isplitl [Hmine]; · iexact Hmine
    isplitl [Hroom]; · iexact Hroom
    isplitl [Hr1]; · iexact Hr1
    iexact Hr2
  iintro ⟨HO, Hs0, Hscr, Harg, Hc1⟩
  iapply (settle_all m K c)
  isplitr; · iexact HK
  isplitl [HO Hc1 Hf1 Hc2 Hf2]
  · isplitl [HO]; · iexact HO
    isplitl [Hc1]; · iexact Hc1
    isplitl [Hf1]; · iexact Hf1
    isplitl [Hc2]; · iexact Hc2
    iexact Hf2
  iintro ⟨HO, Hs1, Hs2, Hmine, Htheirs⟩
  ihave Hs := (Entails.of_eq (over_cells fun i : Cell => spent (F := F) c i).symm) $$ [HsB Hs0 Hs1 Hs2]
  · isplitl [HsB]; · iexact HsB
    isplitl [Hs0]; · iexact Hs0
    isplitl [Hs1]; · iexact Hs1
    iexact Hs2
  imod (close_all m K c) $$ [Hs] with Hz
  · isplitr; · iexact HK
    iexact Hs
  iapply (runs_ret c)
  iapply Hk
  isplitl [HO]; · iexact HO
  isplitl [Hz]; · iexact Hz
  isplitl [Harg]; · iexact Harg
  isplitl [Hscr]
  · iapply (scratch_join c (fun k => blk m c k))
    iexact Hscr
  iapply (result_join m c)
  isplitl [Hmine]; · iexact Hmine
  iexact Htheirs

/-! ## The proof data and the body obligation -/

/-- What the body starts from, and what it leaves. -/
def start (c : Dev nD) : sProp 𝕄 := iprop((∃ K, known m K ∗ linear c) ∗ credits c ∗ argAt m c)
def enter (c : Dev nD) : sProp 𝕄 := iprop(start m c ∗ scratch c)
def leave (c : Dev nD) : sProp 𝕄 := iprop(rest0 c ∗ argAt m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => gath m c
  Φ t := match t with
    | ⟨0, _⟩ => enter m c
    | ⟨_ + 1, _⟩ => leave m c
  q _ := fullShare
  owed t := match t with
    | ⟨0, _⟩ => dueAll c
    | ⟨_ + 1, _⟩ => 0

theorem one_window (Φ : Fin cfg0.W → sProp 𝕄) : bigSep Finset.univ Φ = Φ (0 : Fin 1) := bigSep_W0 Φ

/-- The obligation's two sides, spelt out: the one window's staging buffer is the whole result buffer. -/
def before (c : Dev nD) : sProp 𝕄 :=
  iprop(enter m c ∗ (dats m 0 c).owesAt () t0_0.castSucc ∗ ∃ d, has (F := F) c resM ((dats m 0 c).before (0 : Fin 1) t0_0 d))
def after (c : Dev nD) : sProp 𝕄 :=
  iprop(leave m c ∗ (dats m 0 c).owesAt () t0_0.succ ∗ has (F := F) c resM (gath m c))

theorem runs_id (c : Dev nD) {α : Type} (p : Dev nD → Prog (TpuEff nD τ sig (Elt F) Λ₀ .tc) α) (Q : α → sProp 𝕄) :
    runs c (p c) Q ⊢ runs c (.op .deviceId p) Q := by
  unfold runs
  rw [wp_deviceId]

theorem body_run (c : Dev nD) :
    before m c ⊢ runs c (cc0_body argM (Memref.isWhole_whole _) resM (Memref.isWhole_whole _) scrM (Memref.isWhole_whole _)
      cc0_scratch1 cc0_scratch2 cc0_scratch3) (fun _ => after m c) := by
  rw [body_eq]
  unfold before enter start
  iintro ⟨⟨⟨⟨%K, #HK, Hlin⟩, Hcr, Harg⟩, Hscr⟩, Ho, ⟨%d, Hres⟩⟩
  unfold Dat.owesAt Pipeline.owesWithin
  icases Ho with ⟨%W, %hW, HO⟩
  iapply (runs_id c)
  iapply (stages_run m K c)
  isplitr; · iexact HK
  isplitl [Hlin Hcr HO Harg Hscr Hres]
  · isplitl [Hlin]; · iexact Hlin
    isplitl [Hcr]; · iexact Hcr
    isplitl [HO]; · iexists W; iexact HO
    isplitl [Harg]; · iexact Harg
    isplitl [Hscr]; · iexact Hscr
    iexists _; iexact Hres
  iintro ⟨⟨%W', HO⟩, Hz, Harg, Hscr, Hres⟩
  unfold after leave Dat.owesAt Pipeline.owesWithin
  isplitl [Hz Harg Hscr]
  · isplitl [Hz]; · iexact Hz
    isplitl [Harg]; · iexact Harg
    iexact Hscr
  isplitl [HO]
  · iexists W'; isplitr; · ipureintro; exact fun _ _ => Or.inl trivial
    iexact HO
  iexact Hres

theorem body_obligation (c : Dev nD) : BodyObligation (dats (F := F) m 0 c) (defs₀ (F := F)) 𝒱₀ () Set.univ := fun t => by
  rw [fin_N0 t]
  rw [one_window, one_window]
  exact body_run m c

end Cert.ZGather

end
-- ==== Proof.Launch.lean ====
/- The launch: the ghost state of all devices' cells set up and dealt out, the credits each device starts
   with, and the run of the whole program — every device's result is the two partners' arguments rounded,
   the arguments are unchanged and every semaphore is back at zero. -/
module

public import proofs.«01_k».proof.Proof.Body
public import proofs.«01_k».proof.Proof.Gen.Kernel.Points
public import Idealize.ShloMosaic.Lib.Pipeline.ValueKit.Geometry
public import Idealize.ShloMosaic.Lib.Pipeline.CollectiveSegs

@[expose] public section

noncomputable section

namespace Cert.ZGather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ UU ℕ

variable (m : (ℓ : Loc nD τ sig) → Buf (Elt F) ℓ) (ρ : Dev nD → PrngReg)

/-! ## The ghost state of all cells -/

/-- The semaphores the kernel owns: all its cells but the barrier. -/
abbrev osem : Fin 3 × Fin 4 → SemLoc sig := fun i => csem (some i)

theorem own_facts : Pipeline.OwnSemFacts cfg0.spec osem := by decide

theorem whole_share (c : Dev nD) (w : Fin cfg0.W) : (dats m 0 c).share w = fullShare := by
  unfold Dat.share; split <;> rfl

def allCells : Finset (GSem nD τ sig) :=
  (Finset.univ : Finset (Dev nD × Cell)).map ⟨fun x => gcell x.1 x.2, gcell_inj⟩

/-- One payment for every cell. -/
def allPays : Finset (GSem nD τ sig × ℕ × Unit) :=
  (Finset.univ : Finset (Dev nD × Cell)).map
    ⟨fun x => (gcell x.1 x.2, 0, ()), fun a b h => gcell_inj (congrArg Prod.fst h)⟩

def ghost₀ : UU :=
  (initOf (Pipeline.cells cfgs cellOf_inj) (Pipeline.launchToks cfgs cellOf_inj), initOf allCells allPays)

/-- What the launch deals device `c`: its cells' round states, its positions, the payments into its cells. -/
def dealt (c : Dev nD) : sProp 𝕄 :=
  iprop((bigSep Finset.univ fun i : Cell => roundState ER (Rd m) (gcell c i) 0)
    ∗ (bigSep Finset.univ fun i : Cell => reached ER (gcell c i) 0)
    ∗ (bigSep Finset.univ fun i : Cell => fresh c i)
    ∗ bigSep Finset.univ fun i : Cell => right c i)

theorem deal : BI.own (ER (initOf allCells allPays)) ⊢ (|==> bigSep Finset.univ (dealt m) : sProp 𝕄) := by
  have hX (Φ : GSem nD τ sig → sProp 𝕄) :
      bigSep allCells Φ = bigSep Finset.univ fun c : Dev nD => bigSep Finset.univ fun i : Cell => Φ (gcell c i) := by
    unfold allCells; rw [bigSep_map, bigSep_univ_prod]; rfl
  have hT : bigSep allPays (fun x => (dutyTok ER x.1 x.2.1 x.2.2 : sProp 𝕄))
      = bigSep Finset.univ fun c : Dev nD => bigSep Finset.univ fun i : Cell => right c i := by
    unfold allPays; rw [bigSep_map, bigSep_univ_prod]; rfl
  iintro H
  imod (Rounds.fund ER (Rd m) allCells allPays) $$ H with ⟨Hst, Hr, Hat, Htok⟩
  imodintro
  ihave Hst := (Entails.of_eq (hX fun g => roundState ER (Rd m) g 0)) $$ Hst
  ihave Hr := (Entails.of_eq (hX fun g => reached ER g 0)) $$ Hr
  ihave Hat := (Entails.of_eq (hX fun g => atPos ER g 0 ∅ 0)) $$ Hat
  ihave Htok := (Entails.of_eq hT) $$ Htok
  unfold dealt
  simp only [bigSep_sep']
  isplitl [Hst]; · iexact Hst
  isplitl [Hr]; · iexact Hr
  isplitl [Hat]; · iexact Hat
  iexact Htok

/-! ## The cells opened -/

theorem own_sems (c : Dev nD) :
    (Pipeline.ownSems0 (Ix := Unit) (Name := ℕ) (U := UU) (Lvl := ℕ) (Val := Elt F) (τ := τ) osem c : sProp 𝕄)
      = bigSep Finset.univ fun i : Fin 3 × Fin 4 => semVal (gcell c (some i)) 0 := rfl

theorem other_sems (c : Dev nD) : (unscopedSems0 c : sProp 𝕄) = semVal (gcell c none) 0 := by
  unfold unscopedSems0; rw [bigSep_eq_bigSepL_of_eq [SemLoc.reg barS] (by decide) (by decide)]; rfl

theorem split_sems (c : Dev nD) :
    (rest0 c : sProp 𝕄)
      = iprop(semVal (gcell c none) 0 ∗ bigSep Finset.univ fun i : Fin 3 × Fin 4 => semVal (gcell c (some i)) 0) := by
  have h : (Finset.univ : Finset Cell).erase none = (Finset.univ : Finset (Fin 3 × Fin 4)).map Function.Embedding.some := by decide
  unfold rest0
  rw [bigSep_univ_at _ none, h, bigSep_map]
  rfl

/-- What a device has once its cells are open. -/
def opened (c : Dev nD) : sProp 𝕄 :=
  iprop((bigSep Finset.univ fun i : Cell => iprop(∃ κ : ℕ, cellInv ER (Rd m) κ (gcell c i)))
    ∗ (bigSep Finset.univ fun i : Cell => reached ER (gcell c i) 0)
    ∗ (bigSep Finset.univ fun i : Cell => fresh c i)
    ∗ bigSep Finset.univ fun i : Cell => right c i)

theorem open_cells (c : Dev nD) :
    iprop((rest0 c : sProp 𝕄) ∗ bigSep Finset.univ fun i : Cell => roundState ER (Rd m) (gcell c i) 0)
      ⊢ |={Set.univ}=> bigSep Finset.univ fun i : Cell => iprop(∃ κ : ℕ, cellInv ER (Rd m) κ (gcell c i)) := by
  unfold rest0
  rw [← bigSep_sep']
  exact (bigSep_mono fun i _ => (Rounds.body_intro ER (Rd m) (gcell c i)).trans inv_alloc).trans (bigSep_fupd _ _)

theorem open_device (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  unfold dealt
  rw [own_sems, other_sems]
  iintro ⟨Ho, Hb, Hst, Hr, Hat, Ht⟩
  ihave Hz := (Entails.of_eq (split_sems (F := F) c).symm) $$ [Ho Hb]
  · isplitl [Hb]; · iexact Hb
    iexact Ho
  imod (open_cells m c) $$ [Hz Hst] with HI
  · isplitl [Hz]; · iexact Hz
    iexact Hst
  imodintro
  unfold opened
  isplitl [HI]; · iexact HI
  isplitl [Hr]; · iexact Hr
  isplitl [Hat]; · iexact Hat
  iexact Ht

/-! ## The payments dealt to those who make them -/

/-- The payments device `c` is to make: into its own loads and sends, into its partner's barrier and receives. -/
def pays (c : Dev nD) : sProp 𝕄 :=
  iprop(right (peer c) none ∗ blocks (fun k => right c (some (0, k))) ∗ blocks (fun k => right c (some (1, k)))
    ∗ blocks (fun k => right (peer c) (some (2, k))))

theorem swapped (Φ : Dev nD → sProp 𝕄) : bigSep Finset.univ Φ = bigSep Finset.univ fun c => Φ (peer c) :=
  bigSep_univ_equiv swap Φ

theorem deal_pays :
    (bigSep Finset.univ fun c : Dev nD => bigSep Finset.univ fun i : Cell => (right c i : sProp 𝕄))
      = bigSep Finset.univ fun c : Dev nD => pays c := by
  have h (c : Dev nD) := over_cells fun i : Cell => (right c i : sProp 𝕄)
  unfold pays
  simp only [h]
  rw [bigSep_sep', bigSep_sep', bigSep_sep', bigSep_sep', bigSep_sep', bigSep_sep',
    swapped fun c => (right c none : sProp 𝕄), swapped fun c => blocks fun k => (right c (some (2, k)) : sProp 𝕄)]

/-- What every device shares, without the levels; what each device has after the set-up. -/
def cellsKnown (K : Dev nD × Cell → ℕ) : sProp 𝕄 :=
  bigSep Finset.univ fun x : Dev nD × Cell =>
    iprop(cellInv ER (Rd m) (K x) (gcell x.1 x.2) ∗ reached ER (gcell x.1 x.2) 0)

instance cellsKnown_persistent (K : Dev nD × Cell → ℕ) : BI.Persistent (cellsKnown m K) := by
  unfold cellsKnown; infer_instance

def ready (c : Dev nD) : sProp 𝕄 := iprop(∃ K, cellsKnown m K ∗ linear c)

theorem name_cells :
    iprop((bigSep Finset.univ fun c : Dev nD => bigSep Finset.univ fun i : Cell => iprop(∃ κ : ℕ, cellInv ER (Rd m) κ (gcell c i)))
        ∗ bigSep Finset.univ fun c : Dev nD => bigSep Finset.univ fun i : Cell => (reached ER (gcell c i) 0 : sProp 𝕄))
      ⊢ iprop(∃ K, cellsKnown m K) := by
  rw [← bigSep_univ_prod (fun x : Dev nD × Cell => iprop(∃ κ : ℕ, cellInv ER (Rd m) κ (gcell x.1 x.2))),
    ← bigSep_univ_prod (fun x : Dev nD × Cell => (reached ER (gcell x.1 x.2) 0 : sProp 𝕄))]
  iintro ⟨HI, HR⟩
  ihave HK := (BI.bigSep_exists_pi Finset.univ
    (fun (x : Dev nD × Cell) (κ : ℕ) => (cellInv ER (Rd m) κ (gcell x.1 x.2) : sProp 𝕄))) $$ HI
  icases HK with ⟨%K, HI⟩
  iexists K
  unfold cellsKnown
  rw [bigSep_sep']
  isplitl [HI]; · iexact HI
  iexact HR

theorem ready_intro (K : Dev nD × Cell → ℕ) (c : Dev nD) :
    iprop(cellsKnown m K ∗ ((bigSep Finset.univ fun i : Cell => fresh c i) ∗ pays c)) ⊢ ready m c := by
  unfold ready linear pays
  iintro ⟨HK, H⟩
  iexists K
  isplitl [HK]; · iexact HK
  iexact H

theorem regroup : (bigSep Finset.univ fun c : Dev nD => opened m c) ⊢ bigSep Finset.univ (ready m) := by
  unfold opened
  rw [bigSep_sep', bigSep_sep', bigSep_sep', deal_pays]
  iintro ⟨HI, HR, Hat, Hp⟩
  ihave HK := (name_cells m) $$ [HI HR]
  · isplitl [HI]; · iexact HI
    iexact HR
  icases HK with ⟨%K, HK⟩
  iapply (shared Finset.univ (cellsKnown m K) fun c => ready_intro m K c)
  isplitl [HK]; · iexact HK
  rw [bigSep_sep']
  isplitl [Hat]; · iexact Hat
  iexact Hp

theorem set_up :
    (bigSep Finset.univ fun c => iprop(Pipeline.ownSems0 (Ix := Unit) (Name := ℕ) (U := UU) (Lvl := ℕ) (Val := Elt F) (τ := τ) osem c
        ∗ unscopedSems0 c ∗ dealt m c) : sProp 𝕄)
      ⊢ |={Set.univ}=> bigSep Finset.univ (ready m) :=
  ((bigSep_mono fun c _ => open_device m c).trans (bigSep_fupd _ _)).trans (BI.fupd_mono (regroup m))

/-! ## The credits -/

/-- A device's debt to cell `i` of device `c`, if the cell is a barrier or a receive cell. -/
theorem owed_at (d c : Dev nD) (i : Cell) (hi : i = none ∨ ∃ k, i = some (2, k)) :
    dueAll d (gcell c i) () = if d = peer c then amt i else 0 := by
  have hne {a b : Dev nD} {i j : Cell} (h : ¬(a = b ∧ i = j)) : gcell a i ≠ gcell b j := fun e =>
    h (by have := gcell_inj (a₁ := (a, i)) (a₂ := (b, j)) e; exact ⟨congrArg Prod.fst this, congrArg Prod.snd this⟩)
  have hat (j : Cell) (n : ℕ) : tallyAt (gcell (peer d) j) () n (gcell c i) () = if d = peer c ∧ j = i then n else 0 := by
    rw [tallyAt_apply]
    by_cases h : d = peer c ∧ j = i
    · rw [if_pos h, if_pos ⟨by rw [h.1, peer_peer, h.2], rfl⟩]
    · rw [if_neg h, if_neg]
      rintro ⟨e, -⟩
      exact hne (a := c) (b := peer d) (i := i) (j := j) (fun ⟨h1, h2⟩ => h ⟨by rw [h1, peer_peer], h2.symm⟩) e
  by_cases hd : d = peer c
  · unfold dueAll due due due due due
    simp only [Pi.add_apply, Finsupp.add_apply, hat]
    simp only [hd, _root_.true_and, if_true, show Fin.ofNat 4 (3 - 0) = 3 from rfl, show Fin.ofNat 4 (3 - 1) = 2 from rfl,
      show Fin.ofNat 4 (3 - 2) = 1 from rfl, show Fin.ofNat 4 (3 - 3) = 0 from rfl]
    rcases hi with rfl | ⟨k, rfl⟩
    · rfl
    · fin_cases k <;> simp [amt]
  · unfold dueAll due due due due due
    simp only [Pi.add_apply, Finsupp.add_apply, hat, hd, _root_.false_and, if_false]
    rfl

theorem launch_at (c : Dev nD) (i : Cell) (hi : i = none ∨ ∃ k, i = some (2, k)) :
    tallyOn (gcell c i) (launchCredit (Pipeline.owing dueAll) 0 (gcell c i))
      = (tallyAt (gcell c i) () (amt i) : CellTallies nD τ sig Unit) := by
  unfold tallyAt; refine congrArg _ (Finsupp.ext fun u => ?_); cases u
  rw [Pipeline.launchCredit_owing, Finsupp.single_eq_same, Finset.sum_congr rfl fun d _ => owed_at d c i hi,
    Finset.sum_ite_eq' Finset.univ (peer c) fun _ => amt i, if_pos (Finset.mem_univ _)]

/-- The launch's credits on a device's cells. -/
theorem launch_cells (c : Dev nD) :
    (Pipeline.launchCred dueAll c : sProp 𝕄)
      ⊢ bigSep Finset.univ fun i : Cell => cred (tallyOn (gcell c i) (launchCredit (Pipeline.owing dueAll) 0 (gcell c i))) := by
  have h (Φ : SemLoc sig → sProp 𝕄) :
      bigSep ((Finset.univ : Finset Cell).map ⟨csem, csem_inj⟩) Φ = bigSep Finset.univ fun i : Cell => Φ (csem i) := bigSep_map _
  unfold Pipeline.launchCred
  rw [← h fun s => cred (tallyOn ((c : Thread nD τ), s) (launchCredit (Pipeline.owing dueAll) 0 ((c : Thread nD τ), s)))]
  exact bigSep_subset (Finset.subset_univ _)

theorem credits_intro (c : Dev nD) : (Pipeline.launchCred dueAll c : sProp 𝕄) ⊢ credits c := by
  refine (launch_cells c).trans ?_
  rw [over_cells, launch_at c none (Or.inl rfl)]
  simp only [fun k : Fin 4 => launch_at c (some (2, k)) (Or.inr ⟨k, rfl⟩)]
  unfold credits
  iintro ⟨HB, -, -, H2⟩
  isplitl [HB]; · iexact HB
  iexact H2

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred dueAll c ∗ prngReg c (ρ c) ∗ ready m c)
      ⊢ |={Set.univ}=> iprop(start m c ∗ emp) := by
  rw [Pipeline.unscopedRestP_none, unscopedRest0_eq]
  iintro ⟨Harg, Hlev, Hcr, -, HR⟩
  ihave Hcr := (credits_intro (F := F) c) $$ Hcr
  imodintro
  unfold start ready known argAt
  icases HR with ⟨%K, HK, Hlin⟩
  isplitl
  · isplitl [HK Hlin Hlev]
    · iexists K
      isplitl [HK Hlev]
      · isplitl [HK]; · unfold cellsKnown; iexact HK
        iexact Hlev
      iexact Hlin
    isplitl [Hcr]; · iexact Hcr
    iexact Harg
  · iempintro

theorem enter_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = enter m c from rfl, scopedRest0_eq]
  unfold enter scratch
  iintro ⟨Hs, -, Hr⟩
  isplitl [Hs]; · iexact Hs
  iexact Hr

/-- What is left of a device's body for the end of the run. -/
def final (c : Dev nD) : sProp 𝕄 := iprop(unscopedSems0 c ∗ argAt m c)

theorem leave_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = leave m c from rfl, scopedRest0_eq, own_sems]
  unfold leave final scratch
  rw [split_sems, other_sems]
  iintro ⟨⟨HB, Ho⟩, Harg, Hscr⟩
  isplitl [HB Harg]
  · isplitl [HB]; · iexact HB
    iexact Harg
  isplitl [Ho]; · iexact Ho
  iexact Hscr

theorem final_read (c : Dev nD) (s' : Phys nD τ sig (Elt F)) :
    iprop((final m c : sProp 𝕄) ∗ emp ∗ SI s')
      ⊢ |={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)⌝ ∗ SI s') := by
  unfold final argAt
  iintro ⟨⟨Hu, Harg⟩, -, HSI⟩
  icombine HSI Harg gives %h
  imod (Pipeline.unscopedSems0_read (X := unscopedSems0 c) (c := c) fupd_intro s') $$ [Hu HSI] with ⟨%h2, HSI⟩
  · isplitl [Hu]; · iexact Hu
    iexact HSI
  imodintro
  isplitr
  · ipureintro
    exact ⟨h2, Buf.eq_of_forall_mem_univ h⟩
  iexact HSI

theorem stage_waits (c : Dev nD) : (levAts L lv : sProp 𝕄) ⊢ Pipeline.cellsWaits cfgs (dats m) () 0 c :=
  Pipeline.cellsWaits_intro cfgs (dats m) () 0 c fun w s t => by
    have h : lev (SemLoc.dma ((cfg0.win w).sem s)) ≤ 0 := by fin_cases w; fin_cases s; decide
    rcases t with ⟨_ | _, ht⟩
    · exact may_wait_all c _ h
    · exact may_wait_none c _

theorem final_result (c : Dev nD) : (dats m 0 c).arrAt (0 : Fin 1) cfg0.N = gath m c :=
  (dats m 0 c).arrAt_eq_of_after_last (0 : Fin 1) t0_0 (by decide +kernel) _ fun _ => rfl

/-! ## The run -/

/-- The outcome: every device's result gathered, its argument unchanged, every semaphore at zero. -/
def Gathered (r : PUnit × MemSt nD τ sig (Elt F)) : Prop :=
  (∀ c : Dev nD, r.2.mem ((c.tc : Thread nD τ).loc main_v1) = gath m c
    ∧ r.2.mem ((c.tc : Thread nD τ).loc main_arg0) = m ((c.tc : Thread nD τ).loc main_arg0)) ∧ r.2.sem = fun _ => 0

set_option maxRecDepth 8000 in
/-- From any memory with all semaphores at zero, every weakly fair run ends, and ends so. -/
theorem run : θ_run defs (onTc (τ := τ) (main (F := F))) ⟨m, fun _ => 0, ρ⟩ (Gathered m) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := whole_share m)
    (hdistinct := winFacts0.arr_inj)
    (O₀ := dueAll) (howed₀ := fun _ => rfl) (howedN := fun _ => rfl)
    (L := L) (lv := lv) (hL := L_of_ne) (hwaits := stage_waits m)
    (G := dealt m) (G' := ready m) (u₀ := ghost₀)
    (hu₀ := by
      unfold ghost₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := final m) (Z := fun _ => iprop(emp))
    (hX := start_intro m ρ) (hin := enter_intro m) (hout := leave_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => final_read m c s')
    (hQ := fun _ h hs => ⟨fun c => ⟨((h c).1 (0 : Fin 1)).trans (final_result m c), (h c).2.2.2⟩, sem_eq_zero hs fun c => (h c).2.2.1⟩)

end Cert.ZGather

end
-- ==== Proof.Same.lean ====
/- The idealized kernel is printed with no operation rewritten: its program is the kernel's, read over
   other floats. So what is proved of the kernel for any floats holds of it over the extended reals. -/
module

public import proofs.«01_k».proof.Proof.Gen.Kernel
public import proofs.«01_k».proof.Proof.Gen.KernelIdeal

@[expose] public section

noncomputable section

namespace Cert.ZGather

open Idealize.ShloMosaic Idealize.SL.Sem

variable {F : FTy → Type} [FloatOps F]

theorem bodies_same : Cert.KernelIdeal.defs₀ (F := F) = Cert.Kernel.defs₀ (F := F) := by
  unfold Cert.KernelIdeal.defs₀ Cert.Kernel.defs₀
  refine congrArg _ (funext fun l => ?_)
  fin_cases l
  rfl

theorem defs_same : Cert.KernelIdeal.defs (F := F) = Cert.Kernel.defs (F := F) := by
  unfold Cert.KernelIdeal.defs Cert.Kernel.defs
  rw [bodies_same]
  rfl

theorem main_same : Cert.KernelIdeal.main (F := F) = Cert.Kernel.main (F := F) := rfl

end Cert.ZGather

end
-- ==== Proof.Value.lean ====
/- The value: when every device's argument is its block of rows of one whole array, the two partners'
   arguments one above the other are that array, whichever of the two is asked. -/
module

public import proofs.«01_k».proof.Proof.Bands
public import Idealize.ShloMosaic.Lib.Layout

@[expose] public section

noncomputable section

namespace Cert.ZGather

open Idealize.ShloMosaic Idealize.ShloMosaic.TcCoe Idealize.SL.Sem
open Cert.Kernel Cert.Kernel.Gen

variable {F : FTy → Type} [FloatOps F]

/-- Device `d`'s block of a whole array cut into two blocks of rows along the last axis of the mesh. -/
abbrev rowsOf (X : S1024x512.Idx → Elt F .f32) (d : Dev nD) : S512x512.Idx → Elt F .f32 :=
  Layout.blockN ⟨2, ![512, 512]⟩ ⟨2, ![1024, 512]⟩ (Layout.meshBlock [2, 2, 2] ![[2], []] d) X

/-- Which block that is: the device's coordinate on the last axis. -/
theorem block_row (d : Dev nD) : Layout.meshLin [2, 2, 2] d.val [2] = d.val % 2 := by
  show d.val / 1 % 2 * 1 + 0 = d.val % 2
  omega

/-- The owner of a row has the row's half as its coordinate on the last axis. -/
theorem owner_mod (c : Dev nD) (i : S1024x512.Idx) : (owner c i).val % 2 = (i 0).val / 512 := by
  have h0 : (i 0).val < 1024 := (i 0).isLt
  have hp := peer_mod c
  unfold owner
  split <;> omega

theorem stacked_whole (m : (ℓ : Loc nD τ sig) → Buf (Elt F) ℓ) (X : S1024x512.Idx → Elt F .f32)
    (h : ∀ d : Dev nD, m ((d.tc : Thread nD τ).loc main_arg0) = rowsOf X d) (c : Dev nD) : stacked m c = X := by
  funext i
  have h0 : (i 0).val < 1024 := (i 0).isLt
  unfold stacked
  rw [h (owner c i)]
  unfold rowsOf
  rw [Layout.blockN_apply]
  congr 1
  funext a
  apply Fin.ext
  rw [Layout.TilesN.idx_val]
  fin_cases a
  · show Layout.meshLin [2, 2, 2] (owner c i).val [2] * 512 + (i 0).val % 512 = (i 0).val
    rw [block_row, owner_mod]
    omega
  · show 0 * 512 + (i 1).val = (i 1).val
    omega

/-- So every device's result is the whole array, rounded. -/
theorem gath_whole (m : (ℓ : Loc nD τ sig) → Buf (Elt F) ℓ) (X : S1024x512.Idx → Elt F .f32)
    (h : ∀ d : Dev nD, m ((d.tc : Thread nD τ).loc main_arg0) = rowsOf X d) (c : Dev nD) :
    gath m c = truncf .bf16 X bitsLt_bf16_f32 := by
  unfold gath
  rw [stacked_whole m X h c]

end Cert.ZGather

end
-- ==== Proof.lean ====
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import Idealize.ShloMosaic.Lib.Quiescent

@[expose] public section

noncomputable section

-- The frames also say that every semaphore counter ends at zero; `Gathered` carries that for the kernel,
-- and the reference has no semaphore.

namespace Cert.Proof

open Idealize.ShloMosaic Idealize.ShloMosaic.TcCoe Idealize.SL.Sem

/-- The idealized kernel's run: the kernel's, the two programs being one. -/
theorem run_ideal (m : (ℓ : Loc Cert.Kernel.nD Cert.Kernel.τ Cert.Kernel.sig) → Buf (Elt Ideal) ℓ) (g : Dev Cert.Kernel.nD → PrngReg) :
    θ_run (Cert.KernelIdeal.defs (F := Ideal)) (onTc (τ := Cert.KernelIdeal.τ) (Cert.KernelIdeal.main (F := Ideal)))
      ⟨m, fun _ => 0, g⟩ (ZGather.Gathered (F := Ideal) m) := by
  rw [ZGather.defs_same, ZGather.main_same]
  exact ZGather.run m g

theorem frame_kernel : Cert.quiescent_Kernel := fun m g _ =>
  (θ_run _ _ _).mono (fun _ h => ⟨fun c => (h.1 c).2, h.2⟩) (ZGather.run (F := Bits) m g)

theorem frame_kernel_ideal : Cert.quiescent_KernelIdeal := fun m g _ =>
  (θ_run _ _ _).mono (fun _ h => ⟨fun c => (h.1 c).2, h.2⟩) (run_ideal m g)

theorem frame_reference : Cert.quiescent_Reference := fun m g _ =>
  (θ_run _ _ _).mono (fun r h => ⟨fun c => (h c).2, sem_eq_zero_of_no_sems (by decide) r.2⟩) (Cert.Reference.Value.run m g)

theorem frame_reference_ideal : Cert.quiescent_ReferenceIdeal := fun m g _ =>
  (θ_run _ _ _).mono (fun r h => ⟨fun c => (h c).2, sem_eq_zero_of_no_sems (by decide) r.2⟩) (Cert.ReferenceIdeal.Value.run m g)

/-- Over the extended reals every device ends with the reference's result. -/
theorem value_ideal : Cert.algebraic_KernelIdeal_ReferenceIdeal := fun m g m' g' _ hx =>
  ⟨_, (θ_run _ _ _).mono (fun _ h c => ⟨((h.1 c).1).trans (ZGather.gath_whole m _ hx c), (h.1 c).2⟩) (run_ideal m g),
    (θ_run _ _ _).mono (fun _ h => h 0) (Cert.ReferenceIdeal.Value.run m' g')⟩

/-- Bit for bit as well. -/
theorem value_bits : Cert.bitexact_Kernel_Reference := fun m g m' g' _ hx =>
  ⟨_, (θ_run _ _ _).mono (fun _ h c => ⟨((h.1 c).1).trans (ZGather.gath_whole m _ hx c), (h.1 c).2⟩) (ZGather.run (F := Bits) m g),
    (θ_run _ _ _).mono (fun _ h => h 0) (Cert.Reference.Value.run m' g')⟩

theorem claim : Cert.Claim :=
  ⟨Cert.Kernel.Gen.facts, Cert.KernelIdeal.Gen.facts, Cert.Reference.Gen.facts, Cert.ReferenceIdeal.Gen.facts,
    frame_kernel, frame_kernel_ideal, frame_reference, frame_reference_ideal, trivial, value_ideal, value_bits⟩

end Cert.Proof

end
